-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_magnitude [hPre_finite_magnitude : Cert.Pre_finite_magnitude.Facts] (m : (ℓ : Loc Cert.KernelIdeal.nD Cert.KernelIdeal.τ Cert.KernelIdeal.sig) → Buf (Elt Ideal) ℓ) : Prop :=
  ∀ c : Dev Cert.KernelIdeal.nD,
    (Cert.Pre_finite_magnitude.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_magnitude [hPre_finite_magnitude : Cert.Pre_finite_magnitude.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_magnitude.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_magnitude [hKernelIdeal : Cert.KernelIdeal.Facts] [hPre_finite_magnitude : Cert.Pre_finite_magnitude.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_magnitude m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_magnitude [hReferenceIdeal : Cert.ReferenceIdeal.Facts] [hPre_finite_magnitude : Cert.Pre_finite_magnitude.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_magnitude m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_magnitude [hKernelIdeal : Cert.KernelIdeal.Facts] [hReferenceIdeal : Cert.ReferenceIdeal.Facts] [hPre_finite_magnitude : Cert.Pre_finite_magnitude.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_magnitude m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_magnitude : Cert.Pre_finite_magnitude.Facts),
    quiescent_Kernel (hKernel := hKernel)
    ∧ quiescent_KernelIdeal (hKernelIdeal := hKernelIdeal)
    ∧ quiescent_KernelIdeal_pre_finite_magnitude (hKernelIdeal := hKernelIdeal) (hPre_finite_magnitude := hPre_finite_magnitude)
    ∧ quiescent_ReferenceIdeal (hReferenceIdeal := hReferenceIdeal)
    ∧ quiescent_ReferenceIdeal_pre_finite_magnitude (hReferenceIdeal := hReferenceIdeal) (hPre_finite_magnitude := hPre_finite_magnitude)
    ∧ preserves_Kernel_KernelIdeal
    ∧ algebraic_KernelIdeal_ReferenceIdeal_pre_finite_magnitude (hKernelIdeal := hKernelIdeal) (hReferenceIdeal := hReferenceIdeal) (hPre_finite_magnitude := hPre_finite_magnitude)
-- ==== Pre_finite_magnitude.lean ====
abbrev S6x1536x4096 : Shape := ⟨3, ![6, 1536, 4096]⟩
abbrev S6x12x32 : Shape := ⟨3, ![6, 12, 32]⟩
abbrev S6x96x4096 : Shape := ⟨3, ![6, 96, 4096]⟩
abbrev S6x1536x96 : Shape := ⟨3, ![6, 1536, 96]⟩
abbrev S6x1536 : Shape := ⟨2, ![6, 1536]⟩
abbrev S_ : Shape := ⟨0, ![]⟩

class Facts : Prop where
  bcast_S_S6x1536 : S_.BroadcastsInDim S6x1536 (![] : Fin 0 → Fin S6x1536.rank)

variable [Facts]

def fn {F : FTy → Type} [FloatOps F] (main_arg0 : FVec F S6x1536x4096 .fp8e4m3) (main_arg1 : FVec F S6x12x32 .f32) (main_arg2 : FVec F S6x96x4096 .bf16) (main_arg3 : FVec F S6x1536x96 .bf16) (main_arg4 : FVec F S6x1536 .f32) : IVec S6x1536 1 :=
  let main_v0 : FVec F S6x1536 .f32 := Host.absf main_arg4
  let main_cst : FVec F S_ .f32 := constant S_ .f32 0x7F7FFFFF#32
  let main_v1 : FVec F S6x1536 .f32 := broadcastInDim S6x1536 ![] bcast_S_S6x1536 main_cst
  let main_v2 : IVec S6x1536 1 := cmpf .ole main_v0 main_v1
  main_v2
-- ==== Kernel.lean ====
abbrev S6x1536x4096 : Shape := ⟨3, ![6, 1536, 4096]⟩
abbrev S6x12x32 : Shape := ⟨3, ![6, 12, 32]⟩
abbrev S6x96x4096 : Shape := ⟨3, ![6, 96, 4096]⟩
abbrev S6x1536x96 : Shape := ⟨3, ![6, 1536, 96]⟩
abbrev S6x1536 : Shape := ⟨2, ![6, 1536]⟩
abbrev S36x1x256 : Shape := ⟨3, ![36, 1, 256]⟩
abbrev S1x256x4096 : Shape := ⟨3, ![1, 256, 4096]⟩
abbrev S1x12x32 : Shape := ⟨3, ![1, 12, 32]⟩
abbrev S1x96x4096 : Shape := ⟨3, ![1, 96, 4096]⟩
abbrev S1x256x96 : Shape := ⟨3, ![1, 256, 96]⟩
abbrev S1x1x256 : Shape := ⟨3, ![1, 1, 256]⟩
abbrev S32x128x256 : Shape := ⟨3, ![32, 128, 256]⟩
abbrev S2x256x128 : Shape := ⟨3, ![2, 256, 128]⟩
abbrev S128x128 : Shape := ⟨2, ![128, 128]⟩
abbrev S32x128 : Shape := ⟨2, ![32, 128]⟩
abbrev S1x96x128 : Shape := ⟨3, ![1, 96, 128]⟩
abbrev S96x128 : Shape := ⟨2, ![96, 128]⟩
abbrev S1x128x128 : Shape := ⟨3, ![1, 128, 128]⟩
abbrev S256x96 : Shape := ⟨2, ![256, 96]⟩
abbrev S256x32 : Shape := ⟨2, ![256, 32]⟩
abbrev S256x128 : Shape := ⟨2, ![256, 128]⟩
abbrev S128x256 : Shape := ⟨2, ![128, 256]⟩
abbrev S1x1x32 : Shape := ⟨3, ![1, 1, 32]⟩
abbrev S1x32 : Shape := ⟨2, ![1, 32]⟩
abbrev S128x32 : Shape := ⟨2, ![128, 32]⟩
abbrev S8x256 : Shape := ⟨2, ![8, 256]⟩
abbrev S1x128 : Shape := ⟨2, ![1, 128]⟩
abbrev S256x256 : Shape := ⟨2, ![256, 256]⟩
abbrev S1x128x256 : Shape := ⟨3, ![1, 128, 256]⟩
abbrev S16x8x256 : Shape := ⟨3, ![16, 8, 256]⟩
abbrev S8x128 : Shape := ⟨2, ![8, 128]⟩
abbrev S1x8x128 : Shape := ⟨3, ![1, 8, 128]⟩
abbrev S256 : Shape := ⟨1, ![256]⟩
abbrev S1x256 : Shape := ⟨2, ![1, 256]⟩
abbrev S1x32x128 : Shape := ⟨3, ![1, 32, 128]⟩
abbrev S32 : Shape := ⟨1, ![32]⟩
abbrev S32x1 : Shape := ⟨2, ![32, 1]⟩
abbrev S32x256 : Shape := ⟨2, ![32, 256]⟩

abbrev nBuf : Space → Nat
  | .hbm => 8
  | .vmem => 17
  | .smem => 0
  | _ => 0

abbrev bufTy : (tb : Table) → Fin (tcTables nBuf tb) → BufTy
  | .hbm, ⟨0, _⟩ => ⟨S6x1536x4096, .fp8e4m3⟩
  | .hbm, ⟨1, _⟩ => ⟨S6x12x32, .f32⟩
  | .hbm, ⟨2, _⟩ => ⟨S6x96x4096, .bf16⟩
  | .hbm, ⟨3, _⟩ => ⟨S6x1536x96, .bf16⟩
  | .hbm, ⟨4, _⟩ => ⟨S6x1536, .f32⟩
  | .hbm, ⟨5, _⟩ => ⟨S36x1x256, .f32⟩
  | .hbm, ⟨6, _⟩ => ⟨S6x1536x4096, .fp8e4m3⟩
  | .hbm, ⟨7, _⟩ => ⟨S6x12x32, .f32⟩
  | .local _ .vmem, ⟨0, _⟩ => ⟨S1x256x4096, .fp8e4m3⟩
  | .local _ .vmem, ⟨1, _⟩ => ⟨S1x256x4096, .fp8e4m3⟩
  | .local _ .vmem, ⟨2, _⟩ => ⟨S1x12x32, .f32⟩
  | .local _ .vmem, ⟨3, _⟩ => ⟨S1x12x32, .f32⟩
  | .local _ .vmem, ⟨4, _⟩ => ⟨S1x96x4096, .bf16⟩
  | .local _ .vmem, ⟨5, _⟩ => ⟨S1x96x4096, .bf16⟩
  | .local _ .vmem, ⟨6, _⟩ => ⟨S1x256x96, .bf16⟩
  | .local _ .vmem, ⟨7, _⟩ => ⟨S1x256x96, .bf16⟩
  | .local _ .vmem, ⟨8, _⟩ => ⟨S1x1x256, .f32⟩
  | .local _ .vmem, ⟨9, _⟩ => ⟨S1x1x256, .f32⟩
  | .local _ .vmem, ⟨10, _⟩ => ⟨S1x256x4096, .fp8e4m3⟩
  | .local _ .vmem, ⟨11, _⟩ => ⟨S1x256x4096, .fp8e4m3⟩
  | .local _ .vmem, ⟨12, _⟩ => ⟨S1x12x32, .f32⟩
  | .local _ .vmem, ⟨13, _⟩ => ⟨S1x12x32, .f32⟩
  | .local _ .vmem, ⟨14, _⟩ => ⟨S32x128x256, .bf16⟩
  | .local _ .vmem, ⟨15, _⟩ => ⟨S32x128x256, .f32⟩
  | .local _ .vmem, ⟨16, _⟩ => ⟨S2x256x128, .f32⟩
  | _, _ => ⟨S6x1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 6], ![false, false]⟩

def k0_off1 (i : grid0.Coords) (c0_i32_3 : BitVec 32) : Fin 3 → Nat :=
  let c0_4 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_3
  let v10 : Index := Scalar.indexCast v9
  let c0_5 : Index := 0#32
  ![0, v10.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x96x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x12x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S6x1536x4096 : Shape := ⟨3, ![6, 1536, 4096]⟩
abbrev S6x12x32 : Shape := ⟨3, ![6, 12, 32]⟩
abbrev S6x96x4096 : Shape := ⟨3, ![6, 96, 4096]⟩
abbrev S6x1536x96 : Shape := ⟨3, ![6, 1536, 96]⟩
abbrev S6x1536 : Shape := ⟨2, ![6, 1536]⟩
abbrev S6x12x128x32x128 : Shape := ⟨5, ![6, 12, 128, 32, 128]⟩
abbrev S6x12x1x32x1 : Shape := ⟨5, ![6, 12, 1, 32, 1]⟩
abbrev S6x12x128 : Shape := ⟨3, ![6, 12, 128]⟩
abbrev S6x12x128x1x1 : Shape := ⟨5, ![6, 12, 128, 1, 1]⟩
abbrev S6x12x32x253 : Shape := ⟨4, ![6, 12, 32, 253]⟩
abbrev S6x12x32x1 : Shape := ⟨4, ![6, 12, 32, 1]⟩

abbrev nBuf : Space → Nat
  | .hbm => 7
  | .vmem => 7
  | .smem => 0
  | _ => 0

abbrev bufTy : (tb : Table) → Fin (tcTables nBuf tb) → BufTy
  | .hbm, ⟨0, _⟩ => ⟨S6x1536x4096, .fp8e4m3⟩
  | .hbm, ⟨1, _⟩ => ⟨S6x12x32, .f32⟩
  | .hbm, ⟨2, _⟩ => ⟨S6x96x4096, .bf16⟩
  | .hbm, ⟨3, _⟩ => ⟨S6x1536x96, .bf16⟩
  | .hbm, ⟨4, _⟩ => ⟨S6x1536, .f32⟩
  | .hbm, ⟨5, _⟩ => ⟨S6x1536x4096, .fp8e4m3⟩
  | .hbm, ⟨6, _⟩ => ⟨S6x12x32, .f32⟩
  | .local _ .vmem, ⟨0, _⟩ => ⟨S6x1536x4096, .fp8e4m3⟩
  | .local _ .vmem, ⟨1, _⟩ => ⟨S6x12x32, .f32⟩
  | .local _ .vmem, ⟨2, _⟩ => ⟨S6x96x4096, .bf16⟩
  | .local _ .vmem, ⟨3, _⟩ => ⟨S6x1536x96, .bf16⟩
  | .local _ .vmem, ⟨4, _⟩ => ⟨S6x1536, .f32⟩
  | .local _ .vmem, ⟨5, _⟩ => ⟨S6x1536x4096, .fp8e4m3⟩
  | .local _ .vmem, ⟨6, _⟩ => ⟨S6x12x32, .f32⟩
  | _, _ => ⟨S6x1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "third" => some ((1 / 3 : ℝ) : EReal)
  | _ => none

abbrev grid0 : Pipeline.Grid := .none

abbrev stage0_0 : Fin 1 → Memref sig .tc .vmem S6x1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x96x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1536x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1536x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
/- The body of the idealized kernel: its branch condition, its staging buffers at a point, its scratch buffers. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch condition of the body, from the grid coordinates. -/
abbrev cond0_0 (i : grid0.Coords) : Prop := (Scalar.cmpi .ne (Scalar.extui (Scalar.cmpi .eq (BitVec.ofNat 32 (i 1).val) 0#32)) 0#32) = 1#1
/-- The branch is taken exactly at the points whose second coordinate is zero. -/
theorem hcond0_0 : ∀ t : Fin cfg0.N, cond0_0 (grid0.coords t) ↔ t.val % 6 = 0 :=
  (fun t => by
    have ht : t.val < 36 := Nat.lt_of_lt_of_eq t.isLt N_0
    have e0 : (grid0.coords t 0).val = t.val / 6 % 6 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-- The current staging buffer of each window at a point, and that it is a whole buffer. -/
abbrev ms0_0 (t : Fin cfg0.N) : Memref sig .tc .vmem S1x256x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x96 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x12x32 .f32 := win0_6.stage (cfg0.slots t 6)
abbrev hs0_6 (t : Fin cfg0.N) : (ms0_6 t).IsWhole := hstage0_6 ((cfg0.slots t 6).cast nbuf0_6)
/-- The three scratch buffers as whole memory references. -/
abbrev scM0_0 : Memref sig .tc .vmem S32x128x256 .bf16 := Memref.whole cc0_scratch0
abbrev scM0_1 : Memref sig .tc .vmem S32x128x256 .f32 := Memref.whole cc0_scratch1
abbrev scM0_2 : Memref sig .tc .vmem S2x256x128 .f32 := Memref.whole cc0_scratch2
/-- The first scratch buffer as a view. -/
abbrev VS0_0 : View sig .tc .vmem S32x128x256 .bf16 := scM0_0.view

/-- The invariant of the class, with each scratch buffer owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.RunA.lean ====
/- The body of the idealized kernel run in the case that fills its first scratch. -/
module

public import proofs.«01_k».proof.Proof.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4336000 in
/-- The body in the case that fills the first scratch: from whole staging buffers it runs to its end; the pieces it stored into the two results and the first scratch are the witness. -/
noncomputable def kernelRun0_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole) (hc0 : cond0_0 i)
    (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) :
    { L : List (View.Piece (Elt F) S1x256x4096 .fp8e4m3) × List (View.Piece (Elt F) S1x12x32 .f32) × List (View.Piece (Elt F) S32x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L.1) ∗ (arg8.view.loc (c : Thread nD τ) ↦[arg8.view.set]{fullShare} arg8.view.writes (Elt F) (harg8.unread x6) L.2.1) ∗ (∃ f, arg9.view.loc (c : Thread nD τ) ↦[arg9.view.set]{fullShare} arg9.view.writes (Elt F) f L.2.2) ∗ (∃ d, owns (c : Thread nD τ) arg10 fullShare d) ∗ (∃ d, owns (c : Thread nD τ) arg11 fullShare d)) -∗ K ⟨⟩))
          ⊢ wp frame (wpE (defs₀ (F := F)) Variants.none c none) E (cc0_dora_merge i arg2 harg2 arg3 harg3 arg4 harg4 arg5 harg5 arg6 harg6 arg7 harg7 arg8 harg8 arg9 harg9 arg10 harg10 arg11 harg11) K } := by
  refine ⟨(?_, ?_, ?_), fun E K => ?run⟩
  case run =>
    simp only [cc0_dora_merge_eq_skeleton]; unfold cc0_dora_merge_skel
    simp only [k0_part69_eq_skeleton, k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexact H6
    isplitl [HS0]; · iexists _; iexact HS0
    isplitl [HS1]
    · iexists _, _; isplitr; swap; · iexact HS1
      ipureintro; rfl
    iexists _, _; isplitr; swap; · iexact HS2
    ipureintro; rfl

end Cert.KernelIdeal.Gen

end
-- ==== Proof.RunB.lean ====
/- The body of the idealized kernel run in the case that finds its first scratch filled. -/
module

public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3352000 in
/-- The body in the case that finds the first scratch filled: from whole staging buffers it runs to its end; the pieces it stored into the two results and the first scratch are the witness. -/
noncomputable def kernelRun0_B (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole) (hc0 : ¬cond0_0 i)
    (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (xs0 : Vec F S32x128x256 .bf16) :
    { L : List (View.Piece (Elt F) S1x256x4096 .fp8e4m3) × List (View.Piece (Elt F) S1x12x32 .f32) × List (View.Piece (Elt F) S32x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs0 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L.1) ∗ (arg8.view.loc (c : Thread nD τ) ↦[arg8.view.set]{fullShare} arg8.view.writes (Elt F) (harg8.unread x6) L.2.1) ∗ owns (c : Thread nD τ) arg9 fullShare xs0 ∗ (∃ d, owns (c : Thread nD τ) arg10 fullShare d) ∗ (∃ d, owns (c : Thread nD τ) arg11 fullShare d)) -∗ K ⟨⟩))
          ⊢ wp frame (wpE (defs₀ (F := F)) Variants.none c none) E (cc0_dora_merge i arg2 harg2 arg3 harg3 arg4 harg4 arg5 harg5 arg6 harg6 arg7 harg7 arg8 harg8 arg9 harg9 arg10 harg10 arg11 harg11) K } := by
  refine ⟨(?_, ?_, []), fun E K => ?run⟩
  case run =>
    simp only [cc0_dora_merge_eq_skeleton]; unfold cc0_dora_merge_skel
    simp only [k0_part69_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexact H6
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.KernelIdeal.Gen

end
-- ==== Proof.Canon.lean ====
/- The kernel's payloads of one column block, stated once for every block: the scaled weight block, the product with the
   carried left operand, the sums of squares and the largest entries, the power-of-two scales, the codes. The thirty-two
   unrolled copies in the printed kernel are these at the block's number. -/
module

public import proofs.«01_k».proof.Proof.RunA
public import proofs.«01_k».proof.Proof.RunB

@[expose] public section

set_option maxRecDepth 16384

noncomputable section

namespace Cert.KernelIdeal.Gen

open Idealize.ShloMosaic Idealize.ShloMosaic.TcCoe Idealize.ShloMosaic.Tactic

variable {F : FTy → Type} [FloatOps F]

/-! ## The windows of a block -/

theorem slices_st (q : Fin 32) : S32x128.Slices ![q.val, 0] S1x128 := by revert q; decide
theorem slices_f (q : Fin 32) : S32x256.Slices ![q.val, 0] S1x256 := by revert q; decide
theorem slices_p8 (p : Fin 2) : S8x256.Slices ![0, 128 * p.val] S8x128 := by revert p; decide
theorem slices_p1 (p : Fin 2) : S1x256.Slices ![0, 128 * p.val] S1x128 := by revert p; decide
theorem slices_p128 (p : Fin 2) : S128x256.Slices ![0, 128 * p.val] S128x128 := by revert p; decide
theorem inb_w (p : Fin 2) (q : Fin 32) : ∀ a, (![0, 128 * p.val, 128 * q.val] : Fin 3 → Nat) a + S1x128x128.size a ≤ S1x256x4096.size a := by
  revert p q; decide
theorem inb_a (q : Fin 32) : ∀ a, (![0, 0, 128 * q.val] : Fin 3 → Nat) a + S1x96x128.size a ≤ S1x96x4096.size a := by
  revert q; decide
theorem inb_m (q : Fin 32) : ∀ a, (![q.val, 0, 0] : Fin 3 → Nat) a + S1x128x256.size a ≤ S32x128x256.size a := by
  revert q; decide
theorem inb_l (h : Fin 2) (q : Fin 32) : ∀ a, (![q.val, 0, 128 * h.val] : Fin 3 → Nat) a + S1x128x128.size a ≤ S32x128x256.size a := by
  revert h q; decide
theorem inb_b (p : Fin 2) (q : Fin 32) : ∀ a, (![p.val, 8 * q.val, 0] : Fin 3 → Nat) a + S1x8x128.size a ≤ S2x256x128.size a := by
  revert p q; decide
theorem inb_s (p : Fin 2) (s : Fin 8) : ∀ a, S1x32x128.size a = 0 ∨ (![p.val, s.val, 0] : Fin 3 → Nat) a + (![1, 8, 1] : Fin 3 → Nat) a * (S1x32x128.size a - 1) < S2x256x128.size a := by
  revert p s; decide

/-- The weight window's block (p, q), 128 rows of 128 columns. -/
abbrev rectW (p : Fin 2) (q : Fin 32) : Rect S1x256x4096 := Rect.unit ![0, 128 * p.val, 128 * q.val] S1x128x128.size (inb_w p q)
/-- The columns of block q of the window of A. -/
abbrev rectA (q : Fin 32) : Rect S1x96x4096 := Rect.unit ![0, 0, 128 * q.val] S1x96x128.size (inb_a q)
/-- Block q of a scratch buffer of thirty-two blocks. -/
abbrev rectM (q : Fin 32) : Rect S32x128x256 := Rect.unit ![q.val, 0, 0] S1x128x256.size (inb_m q)
/-- One half of block q of the carried left operand. -/
abbrev rectL (h : Fin 2) (q : Fin 32) : Rect S32x128x256 := Rect.unit ![q.val, 0, 128 * h.val] S1x128x128.size (inb_l h q)
/-- The eight rows of block q, half p, in the buffer of largest entries. -/
abbrev rectB (p : Fin 2) (q : Fin 32) : Rect S2x256x128 := Rect.unit ![p.val, 8 * q.val, 0] S1x8x128.size (inb_b p q)
/-- Row s of every block's eight, half p. -/
abbrev rectS (p : Fin 2) (s : Fin 8) : LoadRect S2x256x128 := { off := ![p.val, s.val, 0], size := S1x32x128.size, stride := ![1, 8, 1], inb := inb_s p s }

/-- The scales' row of half p at a grid point. -/
abbrev rectC (i : grid0.Coords) (p : Fin 2) : Rect S1x12x32 := Rect.unit (k0_off1 i (BitVec.ofNat 32 p.val)) S1x1x32.size (k0_off1_inb i p)
/-- The whole windows of B and of the magnitudes. -/
abbrev rectBB : Rect S1x256x96 := Rect.unit ![0, 0, 0] S1x256x96.size inb_S1x256x96_S1x256x96_0_0_0
abbrev rectG : Rect S1x1x256 := Rect.unit ![0, 0, 0] S1x1x256.size inb_S1x1x256_S1x1x256_0_0_0

/-- The blocks' numbers in the order of the kernel's loop. -/
def qs : List (Fin 32) := [0, 1, 2, 3, 4, 5, 6, 7, 8, 9, 10, 11, 12, 13, 14, 15, 16, 17, 18, 19, 20, 21, 22, 23, 24, 25, 26, 27, 28, 29, 30, 31]

/-! ## One block -/

/-- The weight codes of a block, transposed, times the block's scale. -/
def wB (st : FVec F S32x128 .bf16) (w : Vec F S1x128x128 .fp8e4m3) (q : Fin 32) : FVec F S128x128 .bf16 :=
  mulf (extf .bf16 (transpose S128x128 [1, 0] (shapeCast S128x128 w shapeCasts_S1x128x128_S128x128) transposes_S128x128_p1_0_S128x128) bitsLt_fp8e4m3_bf16)
    (broadcastTo S128x128 (extractStridedSlice S1x128 ![q.val, 0] st (slices_st q)) broadcasts_S1x128_S128x128)

/-- The right operand of a block's product: the two scaled weight blocks side by side over the padded B. -/
def rhsB (bt : FVec F S128x256 .bf16) (st0 st1 : FVec F S32x128 .bf16) (w0 w1 : Vec F S1x128x128 .fp8e4m3) (q : Fin 32) : FVec F S256x256 .bf16 :=
  concatenate S256x256 0 [⟨S128x256, concatenate S128x256 1 [⟨S128x128, wB st0 w0 q⟩, ⟨S128x128, wB st1 w1 q⟩] concatenates_S128x128_S128x128_S128x256_d1⟩, ⟨S128x256, bt⟩]
    concatenates_S128x256_S128x256_S256x256_d0

/-- A block's product. -/
def mB (bt : FVec F S128x256 .bf16) (st0 st1 : FVec F S32x128 .bf16) (w0 w1 : Vec F S1x128x128 .fp8e4m3) (lhs : Vec F S1x128x256 .bf16) (q : Fin 32) : FVec F S128x256 .f32 :=
  matmul dot_S128x256_S256x256_S128x256_1_0_0_1_n_n none (shapeCast S128x256 lhs shapeCasts_S1x128x256_S128x256) (rhsB bt st0 st1 w0 w1 q) (constant S128x256 .f32 0x00000000#32)

/-- The squares of a block summed over its sixteen groups of eight rows. -/
def sqB (M : FVec F S128x256 .f32) : FVec F S8x256 .f32 :=
  multiReduction .add [0] S8x256 (mulf (shapeCast S16x8x256 M shapeCasts_S128x256_S16x8x256) (shapeCast S16x8x256 M shapeCasts_S128x256_S16x8x256)) 0x00000000#32 reduces_S16x8x256_S8x256 (.inl rfl) rfl

/-- The largest absolute value of a block over its sixteen groups of eight rows. -/
def mxB (M : FVec F S128x256 .f32) : FVec F S8x256 .f32 :=
  multiReduction .maximumf [0] S8x256 (absf (shapeCast S16x8x256 M shapeCasts_S128x256_S16x8x256)) 0xFF800000#32 reduces_S16x8x256_S8x256 (.inl rfl) rfl

/-- Half p of it, as it is stored. -/
def mxP (M : FVec F S128x256 .f32) (p : Fin 2) : FVec F S1x8x128 .f32 :=
  shapeCast S1x8x128 (extractStridedSlice S8x128 ![0, 128 * p.val] (mxB M) (slices_p8 p)) shapeCasts_S8x128_S1x8x128

/-- The norm of each output row: the root of the sum of all blocks' squares, one where it is zero. -/
def normB (M : Fin 32 → FVec F S128x256 .f32) : FVec F S1x256 .f32 :=
  let n : FVec F S1x256 .f32 := sqrt (shapeCast S1x256 (multiReduction .add [0] S256 (qs.foldl (fun a q => addf a (sqB (M q))) (broadcast S8x256 (Scalar.ofBits .f32 0x00000000#32))) 0x00000000#32 reduces_S8x256_S256 (.inl rfl) rfl) shapeCasts_S256_S1x256)
  select (cmpf .oeq n (broadcast S1x256 (Scalar.ofBits .f32 0x00000000#32))) (broadcast S1x256 (Scalar.ofBits .f32 0x3F800000#32)) n

/-- The magnitudes over the norms. -/
def ratB (mag : Vec F S1x1x256 .f32) (M : Fin 32 → FVec F S128x256 .f32) : FVec F S1x256 .f32 :=
  divf (shapeCast S1x256 mag shapeCasts_S1x1x256_S1x256) (normB M)

/-! ## The scales -/

/-- The largest of the eight rows read back. -/
def rmB (v : Fin 8 → Vec F S1x32x128 .f32) : FVec F S32x128 .f32 :=
  maximumf (maximumf (maximumf (maximumf (maximumf (maximumf (maximumf (shapeCast S32x128 (v 0) shapeCasts_S1x32x128_S32x128) (shapeCast S32x128 (v 1) shapeCasts_S1x32x128_S32x128)) (shapeCast S32x128 (v 2) shapeCasts_S1x32x128_S32x128))
    (shapeCast S32x128 (v 3) shapeCasts_S1x32x128_S32x128)) (shapeCast S32x128 (v 4) shapeCasts_S1x32x128_S32x128)) (shapeCast S32x128 (v 5) shapeCasts_S1x32x128_S32x128)) (shapeCast S32x128 (v 6) shapeCasts_S1x32x128_S32x128)) (shapeCast S32x128 (v 7) shapeCasts_S1x32x128_S32x128)

/-- Half p of the ratios. -/
def ratP (r : FVec F S1x256 .f32) (p : Fin 2) : FVec F S1x128 .f32 := extractStridedSlice S1x128 ![0, 128 * p.val] r (slices_p1 p)

/-- A block's largest rescaled entry over the largest code. -/
def tB (rm : FVec F S32x128 .f32) (r : FVec F S1x128 .f32) : FVec F S32x128 .f32 :=
  mulf (broadcastTo S32x128 (shapeCast S32x1 (shapeCast S32x1 (multiReduction .maximumf [1] S32 (mulf rm (broadcastTo S32x128 (absf r) broadcasts_S1x128_S32x128)) 0xFF800000#32 reduces_S32x128_S32 (.inl rfl) rfl) shapeCasts_S32_S32x1) shapeCasts_S32x1_S32x1) broadcasts_S32x1_S32x128)
    (broadcast S32x128 (Scalar.ofBits .f32 0x3B124925#32))

/-- One step of the search for the exponent field: keep the bit if the power with it is at most t. -/
def stepE (t : FVec F S32x128 .f32) (b : BitVec 32) (e : IVec S32x128 32) : IVec S32x128 32 :=
  select (cmpf .oge t (bitcastToFloat .f32 (shli (addi e (broadcast S32x128 b)) (broadcast S32x128 23#32)))) (addi e (broadcast S32x128 b)) e

/-- The scale's exponent. -/
def expB (t : FVec F S32x128 .f32) : IVec S32x128 32 :=
  select (cmpf .oeq t (broadcast S32x128 (Scalar.ofBits .f32 0x00000000#32))) (broadcast S32x128 0#32)
    (subi (stepE t 1#32 (stepE t 2#32 (stepE t 4#32 (stepE t 8#32 (stepE t 16#32 (stepE t 32#32 (stepE t 64#32 (stepE t 128#32 (broadcast S32x128 0#32))))))))) (broadcast S32x128 126#32))

/-- The scale, and its inverse. -/
def scaleB (t : FVec F S32x128 .f32) : FVec F S32x128 .f32 :=
  bitcastToFloat .f32 (shli (addi (expB t) (broadcast S32x128 127#32)) (broadcast S32x128 23#32))
def invB (t : FVec F S32x128 .f32) : FVec F S32x128 .f32 :=
  bitcastToFloat .f32 (shli (subi (broadcast S32x128 127#32) (expB t)) (broadcast S32x128 23#32))

/-- The scales of the thirty-two blocks as one row. -/
def scaleRow (t : FVec F S32x128 .f32) : FVec F S1x1x32 .f32 :=
  shapeCast S1x1x32 (extractStridedSlice S1x32 ![0, 0] (transpose S128x32 [1, 0] (scaleB t) transposes_S32x128_p1_0_S128x32) slices_S128x32_o0_0_S1x32) shapeCasts_S1x32_S1x1x32

/-- The factor of every entry of a block's column. -/
def facB (r : FVec F S1x256 .f32) (t0 t1 : FVec F S32x128 .f32) : FVec F S32x256 .f32 :=
  concatenate S32x256 1 [⟨S32x128, mulf (invB t0) (broadcastTo S32x128 (ratP r 0) broadcasts_S1x128_S32x128)⟩, ⟨S32x128, mulf (invB t1) (broadcastTo S32x128 (ratP r 1) broadcasts_S1x128_S32x128)⟩]
    concatenates_S32x128_S32x128_S32x256_d1

/-! ## The codes -/

/-- A block's codes before they are transposed. -/
def codeB (M : Vec F S1x128x256 .f32) (f : FVec F S32x256 .f32) (q : Fin 32) : FVec F S128x256 .fp8e4m3 :=
  truncf .fp8e4m3 (minimumf (broadcast S128x256 (Scalar.ofBits .f32 0x43E00000#32)) (maximumf (broadcast S128x256 (Scalar.ofBits .f32 0xC3E00000#32))
    (mulf (shapeCast S128x256 M shapeCasts_S1x128x256_S128x256) (broadcastTo S128x256 (extractStridedSlice S1x256 ![q.val, 0] f (slices_f q)) broadcasts_S1x256_S128x256)))) bitsLt_fp8e4m3_f32

/-- Half p of them, transposed, as they are stored. -/
def codeP (M : Vec F S1x128x256 .f32) (f : FVec F S32x256 .f32) (p : Fin 2) (q : Fin 32) : FVec F S1x128x128 .fp8e4m3 :=
  shapeCast S1x128x128 (transpose S128x128 [1, 0] (extractStridedSlice S128x128 ![0, 128 * p.val] (codeB M f q) (slices_p128 p)) transposes_S128x128_p1_0_S128x128) shapeCasts_S128x128_S1x128x128

/-! ## The lists of stores -/

/-- The stores of the blocks' products, the last first. -/
def pcsM (M : Fin 32 → FVec F S128x256 .f32) : List (View.Piece (Elt F) S32x128x256 .f32) :=
  qs.reverse.map fun q => ⟨rectM q, shapeCast S1x128x256 (M q) shapeCasts_S128x256_S1x128x256⟩

/-- The stores of the largest entries. -/
def pcsB (M : Fin 32 → FVec F S128x256 .f32) : List (View.Piece (Elt F) S2x256x128 .f32) :=
  qs.reverse.flatMap fun q => [⟨rectB 1 q, mxP (M q) 1⟩, ⟨rectB 0 q, mxP (M q) 0⟩]

/-- The stores of the codes. -/
def pcsO (M : Fin 32 → Vec F S1x128x256 .f32) (f : FVec F S32x256 .f32) : List (View.Piece (Elt F) S1x256x4096 .fp8e4m3) :=
  qs.reverse.flatMap fun q => [⟨rectW 1 q, codeP (M q) f 1 q⟩, ⟨rectW 0 q, codeP (M q) f 0 q⟩]

/-- The stores of the carried left operand. -/
def pcsL (a : Fin 32 → Vec F S1x96x128 .bf16) : List (View.Piece (Elt F) S32x128x256 .bf16) :=
  qs.reverse.flatMap fun q => [⟨rectL 1 q, k0_pay74 (k0_pay3 (F := F)) (a q)⟩, ⟨rectL 0 q, k0_pay73 (k0_pay2 (F := F))⟩]

/-! ## A point's whole computation, from the blocks it loads -/

/-- The products from the loads: the scale rows of the two halves, the weight blocks, B and the carried left operand. -/
def mAll (b : Vec F S1x256x96 .bf16) (s0 s1 : Vec F S1x1x32 .f32) (w : Fin 2 → Fin 32 → Vec F S1x128x128 .fp8e4m3) (l : Fin 32 → Vec F S1x128x256 .bf16) (q : Fin 32) : FVec F S128x256 .f32 :=
  mB (k0_pay75 b) (k0_pay76 s0) (k0_pay77 s1) (w 0 q) (w 1 q) (l q) q

/-- Half p's largest rescaled entries over the largest code, through the buffer of largest entries. -/
def tP (v : View sig .tc .vmem S2x256x128 .f32) (mag : Vec F S1x1x256 .f32) (M : Fin 32 → FVec F S128x256 .f32) (p : Fin 2) : FVec F S32x128 .f32 :=
  tB (rmB fun s => v.readCov (Val := Elt F) (pcsB M) (rectS p s)) (ratP (ratB mag M) p)

/-- The factors of all the blocks. -/
def fAll (v : View sig .tc .vmem S2x256x128 .f32) (mag : Vec F S1x1x256 .f32) (M : Fin 32 → FVec F S128x256 .f32) : FVec F S32x256 .f32 :=
  facB (ratB mag M) (tP v mag M 0) (tP v mag M 1)

/-- The stores of the codes, the products read back from their buffer. -/
def outO (v10 : View sig .tc .vmem S32x128x256 .f32) (v11 : View sig .tc .vmem S2x256x128 .f32) (mag : Vec F S1x1x256 .f32) (M : Fin 32 → FVec F S128x256 .f32) : List (View.Piece (Elt F) S1x256x4096 .fp8e4m3) :=
  pcsO (fun q => v10.readCov (Val := Elt F) (pcsM M) (rectM q).toLoadRect) (fAll v11 mag M)

/-- The two rows of scales that a point stores, the last first. -/
def outS (v11 : View sig .tc .vmem S2x256x128 .f32) (mag : Vec F S1x1x256 .f32) (M : Fin 32 → FVec F S128x256 .f32) (i : grid0.Coords) : List (View.Piece (Elt F) S1x12x32 .f32) :=
  [⟨rectC i 1, scaleRow (tP v11 mag M 1)⟩, ⟨rectC i 0, scaleRow (tP v11 mag M 0)⟩]

end Cert.KernelIdeal.Gen

end
-- ==== Proof.LinkA.lean ====
/- What the body's run leaves, in the words of the block payloads: at a point that writes the left operand first. -/
module

public import proofs.«01_k».proof.Proof.Canon

@[expose] public section

set_option maxRecDepth 16384

noncomputable section

namespace Cert.KernelIdeal.Gen

open Idealize.ShloMosaic Idealize.ShloMosaic.TcCoe Idealize.ShloMosaic.Tactic

variable {F : FTy → Type} [FloatOps F]

/-- The stores of the codes where the left operand is written first. -/
theorem codes_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : cond0_0 i)
    (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) :
    (kernelRun0_A (F := F) c i arg2 harg2 arg3 harg3 arg4 harg4 arg5 harg5 arg6 harg6 arg7 harg7 arg8 harg8 arg9 harg9 arg10 harg10 arg11 harg11 hc0 x0 x1 x2 x3 x4 x6).1.1 = outO arg10.view arg11.view (View.readAt (Elt F) arg6.view rectG.toLoadRect (harg6.unread x4))
    (mAll (View.readAt (Elt F) arg5.view rectBB.toLoadRect (harg5.unread x3))
      (View.readAt (Elt F) arg3.view (rectC i 0).toLoadRect (harg3.unread x1))
      (View.readAt (Elt F) arg3.view (rectC i 1).toLoadRect (harg3.unread x1))
      (fun p q => View.readAt (Elt F) arg2.view (rectW p q).toLoadRect (harg2.unread x0))
      (fun q => arg9.view.readCov (Val := Elt F) (pcsL fun q => View.readAt (Elt F) arg4.view (rectA q).toLoadRect (harg4.unread x2)) (rectM q).toLoadRect)) := by
  sl_kernel_rfl

/-- The stores of the scales where the left operand is written first. -/
theorem scales_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : cond0_0 i)
    (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) :
    (kernelRun0_A (F := F) c i arg2 harg2 arg3 harg3 arg4 harg4 arg5 harg5 arg6 harg6 arg7 harg7 arg8 harg8 arg9 harg9 arg10 harg10 arg11 harg11 hc0 x0 x1 x2 x3 x4 x6).1.2.1 = outS arg11.view (View.readAt (Elt F) arg6.view rectG.toLoadRect (harg6.unread x4))
    (mAll (View.readAt (Elt F) arg5.view rectBB.toLoadRect (harg5.unread x3))
      (View.readAt (Elt F) arg3.view (rectC i 0).toLoadRect (harg3.unread x1))
      (View.readAt (Elt F) arg3.view (rectC i 1).toLoadRect (harg3.unread x1))
      (fun p q => View.readAt (Elt F) arg2.view (rectW p q).toLoadRect (harg2.unread x0))
      (fun q => arg9.view.readCov (Val := Elt F) (pcsL fun q => View.readAt (Elt F) arg4.view (rectA q).toLoadRect (harg4.unread x2)) (rectM q).toLoadRect)) i := by
  sl_kernel_rfl

/-- The stores of the carried left operand where the left operand is written first. -/
theorem lhs_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : cond0_0 i)
    (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) :
    (kernelRun0_A (F := F) c i arg2 harg2 arg3 harg3 arg4 harg4 arg5 harg5 arg6 harg6 arg7 harg7 arg8 harg8 arg9 harg9 arg10 harg10 arg11 harg11 hc0 x0 x1 x2 x3 x4 x6).1.2.2 = pcsL fun q => View.readAt (Elt F) arg4.view (rectA q).toLoadRect (harg4.unread x2) := by
  sl_kernel_rfl

end Cert.KernelIdeal.Gen

end
-- ==== Proof.LinkB.lean ====
/- What the body's run leaves, in the words of the block payloads: at a point that finds the left operand in its buffer. -/
module

public import proofs.«01_k».proof.Proof.Canon

@[expose] public section

set_option maxRecDepth 16384

noncomputable section

namespace Cert.KernelIdeal.Gen

open Idealize.ShloMosaic Idealize.ShloMosaic.TcCoe Idealize.ShloMosaic.Tactic

variable {F : FTy → Type} [FloatOps F]

/-- The stores of the codes where the left operand is found in its buffer. -/
theorem codes_B (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : ¬cond0_0 i)
    (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (xs0 : Vec F S32x128x256 .bf16) :
    (kernelRun0_B (F := F) c i arg2 harg2 arg3 harg3 arg4 harg4 arg5 harg5 arg6 harg6 arg7 harg7 arg8 harg8 arg9 harg9 arg10 harg10 arg11 harg11 hc0 x0 x1 x2 x3 x4 x6 xs0).1.1 = outO arg10.view arg11.view (View.readAt (Elt F) arg6.view rectG.toLoadRect (harg6.unread x4))
    (mAll (View.readAt (Elt F) arg5.view rectBB.toLoadRect (harg5.unread x3))
      (View.readAt (Elt F) arg3.view (rectC i 0).toLoadRect (harg3.unread x1))
      (View.readAt (Elt F) arg3.view (rectC i 1).toLoadRect (harg3.unread x1))
      (fun p q => View.readAt (Elt F) arg2.view (rectW p q).toLoadRect (harg2.unread x0))
      (fun q => View.readAt (Elt F) arg9.view (rectM q).toLoadRect (harg9.unread xs0))) := by
  sl_kernel_rfl

/-- The stores of the scales where the left operand is found in its buffer. -/
theorem scales_B (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : ¬cond0_0 i)
    (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (xs0 : Vec F S32x128x256 .bf16) :
    (kernelRun0_B (F := F) c i arg2 harg2 arg3 harg3 arg4 harg4 arg5 harg5 arg6 harg6 arg7 harg7 arg8 harg8 arg9 harg9 arg10 harg10 arg11 harg11 hc0 x0 x1 x2 x3 x4 x6 xs0).1.2.1 = outS arg11.view (View.readAt (Elt F) arg6.view rectG.toLoadRect (harg6.unread x4))
    (mAll (View.readAt (Elt F) arg5.view rectBB.toLoadRect (harg5.unread x3))
      (View.readAt (Elt F) arg3.view (rectC i 0).toLoadRect (harg3.unread x1))
      (View.readAt (Elt F) arg3.view (rectC i 1).toLoadRect (harg3.unread x1))
      (fun p q => View.readAt (Elt F) arg2.view (rectW p q).toLoadRect (harg2.unread x0))
      (fun q => View.readAt (Elt F) arg9.view (rectM q).toLoadRect (harg9.unread xs0))) i := by
  sl_kernel_rfl

end Cert.KernelIdeal.Gen

end
-- ==== Proof.Point.lean ====
/- What one grid point leaves, as functions of the blocks it loads: the stores into each buffer are the blocks of one
   function of the buffer's index, so a read back of them, and the buffer after them, is that function. -/
module

public import proofs.«01_k».proof.Proof.LinkA
public import proofs.«01_k».proof.Proof.LinkB
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F]

/-! ## The contents of each buffer, by index -/

/-- The buffer of the products: block q is the product of block q. -/
def gM (M : Fin 32 → FVec F S128x256 .f32) : Vec F S32x128x256 .f32 := fun y => M (y 0) (ix2 (y 1) (y 2))

/-- The buffer of the largest entries: row 8q + s of half p is row s of block q's largest entries. -/
def gB (M : Fin 32 → FVec F S128x256 .f32) : Vec F S2x256x128 .f32 := fun y =>
  mxB (M ⟨(y 1).val / 8, by have := (y 1).isLt; change (y 1).val < 256 at this; omega⟩)
    (ix2 ⟨(y 1).val % 8, Nat.mod_lt _ (by decide)⟩ ⟨128 * (y 0).val + (y 2).val, by
      have h0 := (y 0).isLt; have h2 := (y 2).isLt; change (y 0).val < 2 at h0; change (y 2).val < 128 at h2; omega⟩)

/-- The carried left operand: the multiple of the identity beside block q of A, transposed and padded. -/
def gL (a : Fin 32 → Vec F S1x96x128 .bf16) : Vec F S32x128x256 .bf16 := fun y =>
  if h : (y 2).val < 128 then k0_pay73 (k0_pay2 (F := F)) (ix3 0 (y 1) ⟨(y 2).val, h⟩)
  else k0_pay74 (k0_pay3 (F := F)) (a (y 0)) (ix3 0 (y 1) ⟨(y 2).val - 128, by have h2 := (y 2).isLt; change (y 2).val < 256 at h2; omega⟩)

/-- The codes of a point: row r, column c is entry (c mod 128, r) of block c / 128's codes. -/
def gO (M : Fin 32 → Vec F S1x128x256 .f32) (f : FVec F S32x256 .f32) : Vec F S1x256x4096 .fp8e4m3 := fun y =>
  codeB (M ⟨(y 2).val / 128, by have := (y 2).isLt; change (y 2).val < 4096 at this; omega⟩) f
    ⟨(y 2).val / 128, by have := (y 2).isLt; change (y 2).val < 4096 at this; omega⟩
    (ix2 ⟨(y 2).val % 128, Nat.mod_lt _ (by decide)⟩ (y 1))

theorem mem_qs (q : Fin 32) : q ∈ qs := by revert q; decide

/-! ## The windows of a block, at coordinates -/

theorem emb_rectM (q : Fin 32) (x : (rectM q).shape.Idx) : (rectM q).emb x = ix3 q (x 1) (x 2) := by
  funext a
  apply Fin.ext
  match a with
  | ⟨0, _⟩ => have := (x 0).isLt; change (x 0).val < 1 at this; show q.val + 1 * (x 0).val = q.val; omega
  | ⟨1, _⟩ => show 0 + 1 * (x 1).val = (x 1).val; omega
  | ⟨2, _⟩ => show 0 + 1 * (x 2).val = (x 2).val; omega

theorem emb_rectL (h : Fin 2) (q : Fin 32) (x : (rectL h q).shape.Idx) :
    (rectL h q).emb x = ix3 q (x 1) ⟨128 * h.val + (x 2).val, by have := (x 2).isLt; change (x 2).val < 128 at this; omega⟩ := by
  funext a
  apply Fin.ext
  match a with
  | ⟨0, _⟩ => have := (x 0).isLt; change (x 0).val < 1 at this; show q.val + 1 * (x 0).val = q.val; omega
  | ⟨1, _⟩ => show 0 + 1 * (x 1).val = (x 1).val; omega
  | ⟨2, _⟩ => show 128 * h.val + 1 * (x 2).val = 128 * h.val + (x 2).val; omega

theorem emb_rectB (p : Fin 2) (q : Fin 32) (x : (rectB p q).shape.Idx) :
    (rectB p q).emb x = ix3 p ⟨8 * q.val + (x 1).val, by have := (x 1).isLt; change (x 1).val < 8 at this; omega⟩ (x 2) := by
  funext a
  apply Fin.ext
  match a with
  | ⟨0, _⟩ => have := (x 0).isLt; change (x 0).val < 1 at this; show p.val + 1 * (x 0).val = p.val; omega
  | ⟨1, _⟩ => show 8 * q.val + 1 * (x 1).val = 8 * q.val + (x 1).val; omega
  | ⟨2, _⟩ => show 0 + 1 * (x 2).val = (x 2).val; omega

theorem idx_rectS (p : Fin 2) (s : Fin 8) (x : (rectS p s).shape.Idx) :
    (rectS p s).idx x = ix3 p ⟨8 * (x 1).val + s.val, by have := (x 1).isLt; change (x 1).val < 32 at this; omega⟩ (x 2) := by
  funext a
  apply Fin.ext
  match a with
  | ⟨0, _⟩ => have := (x 0).isLt; change (x 0).val < 1 at this; show p.val + 1 * (x 0).val = p.val; omega
  | ⟨1, _⟩ => show s.val + 8 * (x 1).val = 8 * (x 1).val + s.val; omega
  | ⟨2, _⟩ => show 0 + 1 * (x 2).val = (x 2).val; omega

theorem emb_rectW (p : Fin 2) (q : Fin 32) (x : (rectW p q).shape.Idx) :
    (rectW p q).emb x = ix3 0 ⟨128 * p.val + (x 1).val, by have := (x 1).isLt; change (x 1).val < 128 at this; omega⟩
      ⟨128 * q.val + (x 2).val, by have := (x 2).isLt; change (x 2).val < 128 at this; omega⟩ := by
  funext a
  apply Fin.ext
  match a with
  | ⟨0, _⟩ => have := (x 0).isLt; change (x 0).val < 1 at this; show 0 + 1 * (x 0).val = 0; omega
  | ⟨1, _⟩ => show 128 * p.val + 1 * (x 1).val = 128 * p.val + (x 1).val; omega
  | ⟨2, _⟩ => show 128 * q.val + 1 * (x 2).val = 128 * q.val + (x 2).val; omega

theorem emb_rectC (i : grid0.Coords) (p : Fin 2) (x : (rectC i p).shape.Idx) :
    (rectC i p).emb x = ix3 0 ⟨2 * (i 1).val + p.val, by have := (i 1).isLt; change (i 1).val < 6 at this; omega⟩ (x 2) := by
  have e := k0_off1_eq i p
  funext a
  apply Fin.ext
  match a with
  | ⟨0, _⟩ => have := (x 0).isLt; change (x 0).val < 1 at this; show k0_off1 i (BitVec.ofNat 32 p.val) 0 + 1 * (x 0).val = 0; rw [e]; show 0 + 1 * (x 0).val = 0; omega
  | ⟨1, _⟩ => have := (x 1).isLt; change (x 1).val < 1 at this; show k0_off1 i (BitVec.ofNat 32 p.val) 1 + 1 * (x 1).val = 2 * (i 1).val + p.val; rw [e]; show 2 * (i 1).val + p.val + 0 + 1 * (x 1).val = 2 * (i 1).val + p.val; omega
  | ⟨2, _⟩ => show k0_off1 i (BitVec.ofNat 32 p.val) 2 + 1 * (x 2).val = (x 2).val; rw [e]; show 0 + 1 * (x 2).val = (x 2).val; omega

theorem row_rectC (i : grid0.Coords) (p : Fin 2) (x : (rectC i p).shape.Idx) : ((rectC i p).emb x 1).val = 2 * (i 1).val + p.val := by
  rw [emb_rectC]
  rfl

theorem not_mem_rectC (i : grid0.Coords) (p : Fin 2) (y : S1x12x32.Idx) (h : (y 1).val ≠ 2 * (i 1).val + p.val) : y ∉ (rectC i p).set := by
  intro hy
  obtain ⟨x, rfl⟩ := (rectC i p).exists_idx_of_mem hy
  exact h (row_rectC i p x)

/-- Every index is of the form that the blocks' placements take. -/
theorem ix3_congr {a b c : Nat} {i i' : Fin a} {j j' : Fin b} {k k' : Fin c} (h0 : i.val = i'.val) (h1 : j.val = j'.val) (h2 : k.val = k'.val) :
    (ix3 i j k : (⟨3, ![a, b, c]⟩ : Shape).Idx) = ix3 i' j' k' := by
  rw [Fin.ext h0, Fin.ext h1, Fin.ext h2]

/-! ## The stores are blocks of these functions, and cover them -/

/-- Stores of two halves of every block, each the block of one function. -/
theorem forall_pieces {S : Shape} {e : EltTy} (R : Fin 2 → Fin 32 → Rect S) (v : ∀ p q, (R p q).shape.Idx → Elt F e) (G : S.Idx → Elt F e)
    (key : ∀ p q x, v p q x = G ((R p q).emb x)) :
    ∀ pc ∈ qs.reverse.flatMap fun q => [(⟨R 1 q, v 1 q⟩ : View.Piece (Elt F) S e), ⟨R 0 q, v 0 q⟩], ∀ x, pc.2 x = G (pc.1.emb x) := by
  intro pc hp x
  obtain ⟨q, -, hq⟩ := List.mem_flatMap.1 hp
  simp only [List.mem_cons, List.not_mem_nil, or_false] at hq
  rcases hq with rfl | rfl
  · exact key 1 q x
  · exact key 0 q x

/-- An index that one of them covers. -/
theorem exists_piece {S : Shape} {e : EltTy} (R : Fin 2 → Fin 32 → Rect S) (v : ∀ p q, (R p q).shape.Idx → Elt F e) (p : Fin 2) (q : Fin 32)
    (x : (R p q).shape.Idx) {y : S.Idx} (h : (R p q).emb x = y) :
    ∃ pc ∈ qs.reverse.flatMap fun q => [(⟨R 1 q, v 1 q⟩ : View.Piece (Elt F) S e), ⟨R 0 q, v 0 q⟩], y ∈ pc.1.set := by
  subst h
  refine ⟨⟨R p q, v p q⟩, List.mem_flatMap.2 ⟨q, List.mem_reverse.2 (mem_qs q), ?_⟩, (R p q).idx_mem x⟩
  match p with
  | 0 => exact List.mem_cons_of_mem _ (List.mem_singleton.2 rfl)
  | 1 => exact List.mem_cons_self

theorem pcsM_pieces (M : Fin 32 → FVec F S128x256 .f32) : ∀ p ∈ pcsM M, ∀ x, p.2 x = gM M (p.1.emb x) := by
  intro p hp x
  obtain ⟨q, -, rfl⟩ := List.mem_map.1 hp
  rw [emb_rectM]
  pointwise [gM]

theorem pcsM_cover (M : Fin 32 → FVec F S128x256 .f32) (q : Fin 32) (x : (rectM q).shape.Idx) : ∃ p ∈ pcsM M, (rectM q).emb x ∈ p.1.set :=
  ⟨_, List.mem_map.2 ⟨q, List.mem_reverse.2 (mem_qs q), rfl⟩, (rectM q).idx_mem x⟩

theorem pcsB_pieces (M : Fin 32 → FVec F S128x256 .f32) : ∀ p ∈ pcsB M, ∀ x, p.2 x = gB M (p.1.emb x) := by
  refine forall_pieces (F := F) (e := .f32) rectB (fun p q => mxP (M q) p) (gB M) fun p q x => ?_
  rw [emb_rectB]
  idx_vars x
  pointwise [mxP, gB]
  have e : (8 * q.val + x1.val) / 8 = q.val := by omega
  have e' : (8 * q.val + x1.val) % 8 = x1.val := by omega
  simp only [e, e', Fin.eta]

theorem pcsB_cover (M : Fin 32 → FVec F S128x256 .f32) (p : Fin 2) (s : Fin 8) (x : (rectS p s).shape.Idx) : ∃ pc ∈ pcsB M, (rectS p s).idx x ∈ pc.1.set := by
  have hx := (x 1).isLt; change (x 1).val < 32 at hx
  refine exists_piece (F := F) (e := .f32) rectB (fun p q => mxP (M q) p) p ⟨(x 1).val, hx⟩ (ix3 0 s (x 2)) ?_
  rw [emb_rectB, idx_rectS]
  exact ix3_congr rfl rfl rfl

theorem pcsL_pieces (a : Fin 32 → Vec F S1x96x128 .bf16) : ∀ p ∈ pcsL a, ∀ x, p.2 x = gL a (p.1.emb x) := by
  refine forall_pieces (F := F) (e := .bf16) rectL (fun p q => if p = 1 then k0_pay74 (k0_pay3 (F := F)) (a q) else k0_pay73 (k0_pay2 (F := F))) (gL a) fun p q x => ?_
  rw [emb_rectL]
  idx_vars x
  match p with
  | 0 =>
    have h : (128 * (0 : Fin 2).val + x2.val) < 128 := by show 128 * 0 + x2.val < 128; omega
    refine Eq.trans ?_ (dif_pos h).symm
    show k0_pay73 (k0_pay2 (F := F)) (ix3 x0 x1 x2) = k0_pay73 (k0_pay2 (F := F)) (ix3 0 x1 ⟨_, _⟩)
    exact congrArg _ (ix3_congr (by omega) rfl (by show x2.val = 128 * 0 + x2.val; omega))
  | 1 =>
    have h : ¬ (128 * (1 : Fin 2).val + x2.val) < 128 := by show ¬ (128 * 1 + x2.val < 128); omega
    refine Eq.trans ?_ (dif_neg h).symm
    show k0_pay74 (k0_pay3 (F := F)) (a q) (ix3 x0 x1 x2) = k0_pay74 (k0_pay3 (F := F)) (a q) (ix3 0 x1 ⟨_, _⟩)
    exact congrArg _ (ix3_congr (by omega) rfl (by show x2.val = 128 * 1 + x2.val - 128; omega))

theorem pcsL_cover (a : Fin 32 → Vec F S1x96x128 .bf16) (y : S32x128x256.Idx) : ∃ p ∈ pcsL a, y ∈ p.1.set := by
  idx_vars y
  refine exists_piece (F := F) (e := .bf16) rectL (fun p q => if p = 1 then k0_pay74 (k0_pay3 (F := F)) (a q) else k0_pay73 (k0_pay2 (F := F)))
    ⟨y2.val / 128, by omega⟩ y0 (ix3 0 y1 ⟨y2.val % 128, Nat.mod_lt _ (by decide)⟩) ?_
  rw [emb_rectL]
  exact ix3_congr rfl rfl (Nat.div_add_mod _ _)

theorem pcsO_pieces (M : Fin 32 → Vec F S1x128x256 .f32) (f : FVec F S32x256 .f32) : ∀ p ∈ pcsO M f, ∀ x, p.2 x = gO M f (p.1.emb x) := by
  refine forall_pieces (F := F) (e := .fp8e4m3) rectW (fun p q => codeP (M q) f p q) (gO M f) fun p q x => ?_
  rw [emb_rectW]
  idx_vars x
  pointwise [codeP, gO]
  have e : (128 * q.val + x2.val) / 128 = q.val := by omega
  have e' : (128 * q.val + x2.val) % 128 = x2.val := by omega
  simp only [e, e', Fin.eta]

theorem pcsO_cover (M : Fin 32 → Vec F S1x128x256 .f32) (f : FVec F S32x256 .f32) (y : S1x256x4096.Idx) : ∃ p ∈ pcsO M f, y ∈ p.1.set := by
  idx_vars y
  refine exists_piece (F := F) (e := .fp8e4m3) rectW (fun p q => codeP (M q) f p q) ⟨y1.val / 128, by omega⟩ ⟨y2.val / 128, by omega⟩
    (ix3 0 ⟨y1.val % 128, Nat.mod_lt _ (by decide)⟩ ⟨y2.val % 128, Nat.mod_lt _ (by decide)⟩) ?_
  rw [emb_rectW]
  exact ix3_congr (by omega) (Nat.div_add_mod _ _) (Nat.div_add_mod _ _)

/-! ## The reads back -/

theorem readCov_M (v : View sig .tc .vmem S32x128x256 .f32) (M : Fin 32 → FVec F S128x256 .f32) (q : Fin 32) :
    v.readCov (Val := Elt F) (pcsM M) (rectM q).toLoadRect = fun x => gM M ((rectM q).emb x) := by
  rw [View.readCov_eq_canon']
  funext x
  exact View.canon_apply_of_pieces _ _ (pcsM_pieces M) _ (pcsM_cover M q x)

theorem readCov_B (v : View sig .tc .vmem S2x256x128 .f32) (M : Fin 32 → FVec F S128x256 .f32) (p : Fin 2) (s : Fin 8) :
    v.readCov (Val := Elt F) (pcsB M) (rectS p s) = fun x => gB M ((rectS p s).idx x) := by
  rw [View.readCov_eq_canon']
  funext x
  exact View.canon_apply_of_pieces _ _ (pcsB_pieces M) _ (pcsB_cover M p s x)

theorem readCov_L (v : View sig .tc .vmem S32x128x256 .bf16) (a : Fin 32 → Vec F S1x96x128 .bf16) (q : Fin 32) :
    v.readCov (Val := Elt F) (pcsL a) (rectM q).toLoadRect = fun x => gL a ((rectM q).emb x) := by
  rw [View.readCov_eq_canon']
  funext x
  exact View.canon_apply_of_pieces _ _ (pcsL_pieces a) _ (pcsL_cover a _)

/-! ## A point's results -/

/-- The blocks' products at a point, from the blocks of the codes (x0), the scales (x1), A (x2) and B (x3). -/
def ptM (i : grid0.Coords) (x0 : Vec F S1x256x4096 .fp8e4m3) (x1 : Vec F S1x12x32 .f32) (x2 : Vec F S1x96x4096 .bf16) (x3 : Vec F S1x256x96 .bf16) (q : Fin 32) : FVec F S128x256 .f32 :=
  mAll (fun x => x3 (rectBB.emb x)) (fun x => x1 ((rectC i 0).emb x)) (fun x => x1 ((rectC i 1).emb x)) (fun p q x => x0 ((rectW p q).emb x))
    (fun q x => gL (fun q x => x2 ((rectA q).emb x)) ((rectM q).emb x)) q

/-- Half p's largest rescaled entries over the largest code, from the products and the magnitudes. -/
def ptT (mag : Vec F S1x1x256 .f32) (M : Fin 32 → FVec F S128x256 .f32) (p : Fin 2) : FVec F S32x128 .f32 :=
  tB (rmB fun s x => gB M ((rectS p s).idx x)) (ratP (ratB mag M) p)

/-- The codes that a point stores. -/
def ptO (mag : Vec F S1x1x256 .f32) (M : Fin 32 → FVec F S128x256 .f32) : Vec F S1x256x4096 .fp8e4m3 :=
  gO (fun q x => gM M ((rectM q).emb x)) (facB (ratB mag M) (ptT mag M 0) (ptT mag M 1))

theorem tP_eq (v : View sig .tc .vmem S2x256x128 .f32) (mag : Vec F S1x1x256 .f32) (M : Fin 32 → FVec F S128x256 .f32) (p : Fin 2) : tP v mag M p = ptT mag M p := by
  unfold tP ptT
  rw [show (fun s => v.readCov (Val := Elt F) (pcsB M) (rectS p s)) = fun s x => gB M ((rectS p s).idx x) from funext fun s => readCov_B v M p s]

/-- The stores of the codes read as the codes. -/
theorem read_outO (v : View sig .tc .vmem S1x256x4096 .fp8e4m3) (f) (v10 : View sig .tc .vmem S32x128x256 .f32) (v11 : View sig .tc .vmem S2x256x128 .f32) (mag : Vec F S1x1x256 .f32) (M : Fin 32 → FVec F S128x256 .f32) :
    v.read (Elt F) (v.writes (Elt F) f (outO v10 v11 mag M)) = ptO mag M := by
  unfold outO fAll
  rw [tP_eq, tP_eq, show (fun q => v10.readCov (Val := Elt F) (pcsM M) (rectM q).toLoadRect) = fun q x => gM M ((rectM q).emb x) from funext fun q => readCov_M v10 M q]
  funext y
  exact View.read_writes_apply_of_pieces v f _ _ (pcsO_pieces _ _) y (pcsO_cover _ _ y)

/-- The stores of the carried left operand read as it. -/
theorem read_pcsL (v : View sig .tc .vmem S32x128x256 .bf16) (f) (a : Fin 32 → Vec F S1x96x128 .bf16) :
    v.read (Elt F) (v.writes (Elt F) f (pcsL a)) = gL a :=
  funext fun y => View.read_writes_apply_of_pieces v f _ _ (pcsL_pieces a) y (pcsL_cover a y)

/-- A store of scales leaves half p's row. -/
theorem read_outS (v : View sig .tc .vmem S1x12x32 .f32) (f) (v11 : View sig .tc .vmem S2x256x128 .f32) (mag : Vec F S1x1x256 .f32) (M : Fin 32 → FVec F S128x256 .f32) (i : grid0.Coords) (p : Fin 2) (x : S1x1x32.Idx) :
    v.read (Elt F) (v.writes (Elt F) f (outS v11 mag M i)) ((rectC i p).emb x) = scaleRow (ptT mag M p) x := by
  unfold outS
  rw [tP_eq, tP_eq]
  match p with
  | 1 => exact View.read_writes_cons_emb _ _ _ _ _ _
  | 0 =>
    have h : (rectC i 0).emb x ∉ (rectC i 1).set := not_mem_rectC i 1 _ fun h => absurd (Nat.add_left_cancel ((row_rectC i 0 x).symm.trans h)) (by decide)
    exact (View.read_writes_cons_miss v f ⟨rectC i 1, scaleRow (ptT mag M 1)⟩ [⟨rectC i 0, scaleRow (ptT mag M 0)⟩] ((rectC i 0).emb x) h).trans
      (View.read_writes_cons_emb v f (rectC i 0) (scaleRow (ptT mag M 0)) [] x)

/-- It leaves every element outside the two rows as it was. -/
theorem read_outS_of_ne (v : View sig .tc .vmem S1x12x32 .f32) (f) (v11 : View sig .tc .vmem S2x256x128 .f32) (mag : Vec F S1x1x256 .f32) (M : Fin 32 → FVec F S128x256 .f32) (i : grid0.Coords) (y : S1x12x32.Idx)
    (h : (y 1).val / 2 ≠ (i 1).val) :
    v.read (Elt F) (v.writes (Elt F) f (outS v11 mag M i)) y = v.read (Elt F) f y := by
  refine View.read_writes_apply_of_forall_not_mem v f y _ fun pc hp => ?_
  simp only [outS, List.mem_cons, List.not_mem_nil, or_false] at hp
  rcases hp with rfl | rfl
  · exact not_mem_rectC i 1 y (by show (y 1).val ≠ 2 * (i 1).val + 1; omega)
  · exact not_mem_rectC i 0 y (by show (y 1).val ≠ 2 * (i 1).val + 0; omega)

end Cert.KernelIdeal.Gen

end
-- ==== Proof.Read.lean ====
/- The kernel's frame with its results named: at every grid point the body leaves the codes of the point's blocks in its
   window, and the rows of scales of the points of its batch so far in theirs; the carried left operand is the one of
   the batch's block of A. -/
module

public import proofs.«01_k».proof.Proof.Point
public import Idealize.ShloMosaic.Lib.WholeRead
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point computes -/

/-- The left operand that the points of t's batch carry. -/
def tL (c : Dev nD) (t : Fin cfg0.N) : Vec F S32x128x256 .bf16 := gL fun q x => iblk m c 2 t ((rectA q).emb x)

/-- The products of point t. -/
def tM (c : Dev nD) (t : Fin cfg0.N) : Fin 32 → FVec F S128x256 .f32 :=
  ptM (grid0.coords t) (iblk m c 0 t) (iblk m c 1 t) (iblk m c 2 t) (iblk m c 3 t)

/-- The magnitudes of point t. -/
def tG (c : Dev nD) (t : Fin cfg0.N) : Vec F S1x1x256 .f32 := fun x => iblk m c 4 t (rectG.emb x)

/-- The codes of point t. -/
def tO (c : Dev nD) (t : Fin cfg0.N) : Vec F S1x256x4096 .fp8e4m3 := ptO (tG m c t) (tM m c t)

/-- Half p's row of scales of point t. -/
def tS (c : Dev nD) (t : Fin cfg0.N) (p : Fin 2) : FVec F S1x1x32 .f32 := scaleRow (ptT (tG m c t) (tM m c t) p)

/-- The block of A moves with the batch only. -/
theorem idx0_2 : ∀ t : Fin cfg0.N, win0_2.index t = ![t.val / 6, 0, 0] := (by decide +kernel : ∀ t : Fin grid0.N, _)

/-- The carried left operand is the same at all points of a batch. -/
theorem tL_congr (c : Dev nD) (t t' : Fin cfg0.N) (h : t.val / 6 = t'.val / 6) : tL m c t = tL m c t' := by
  have e : iblk m c 2 t = iblk m c 2 t' := by
    funext y
    blk_ext [iblk, idx0_2 t, idx0_2 t', h]
  unfold tL
  rw [e]

/-! ## What the body's run leaves, in these words -/

/-- The load of the magnitudes. -/
theorem load_G (arg6 : Memref sig .tc .vmem S1x1x256 .f32) (harg6 : arg6.IsWhole) (x4 : Vec F S1x1x256 .f32) :
    View.readAt (Elt F) arg6.view rectG.toLoadRect (harg6.unread x4) = fun x => x4 (rectG.emb x) := funext fun x => harg6.readAt_unread x4 _ x

/-- The products from a point's loads, where the left operand loads as the batch's. -/
theorem loads_M (i : grid0.Coords) (arg2 : Memref sig .tc .vmem S1x256x4096 .fp8e4m3) (harg2 : arg2.IsWhole) (arg3 : Memref sig .tc .vmem S1x12x32 .f32) (harg3 : arg3.IsWhole) (arg5 : Memref sig .tc .vmem S1x256x96 .bf16) (harg5 : arg5.IsWhole)
    (x0 : Vec F S1x256x4096 .fp8e4m3) (x1 : Vec F S1x12x32 .f32) (x2 : Vec F S1x96x4096 .bf16) (x3 : Vec F S1x256x96 .bf16) (l : Fin 32 → Vec F S1x128x256 .bf16)
    (hl : l = fun q x => gL (fun q x => x2 ((rectA q).emb x)) ((rectM q).emb x)) :
    mAll (View.readAt (Elt F) arg5.view rectBB.toLoadRect (harg5.unread x3))
      (View.readAt (Elt F) arg3.view (rectC i 0).toLoadRect (harg3.unread x1))
      (View.readAt (Elt F) arg3.view (rectC i 1).toLoadRect (harg3.unread x1))
      (fun p q => View.readAt (Elt F) arg2.view (rectW p q).toLoadRect (harg2.unread x0)) l = ptM i x0 x1 x2 x3 := by
  have eB : View.readAt (Elt F) arg5.view rectBB.toLoadRect (harg5.unread x3) = fun x => x3 (rectBB.emb x) := funext fun x => harg5.readAt_unread x3 _ x
  have eC : ∀ p, View.readAt (Elt F) arg3.view (rectC i p).toLoadRect (harg3.unread x1) = fun x => x1 ((rectC i p).emb x) := fun p => funext fun x => harg3.readAt_unread x1 _ x
  have eW : (fun p q => View.readAt (Elt F) arg2.view (rectW p q).toLoadRect (harg2.unread x0)) = fun p q x => x0 ((rectW p q).emb x) :=
    funext fun p => funext fun q => funext fun x => harg2.readAt_unread x0 _ x
  rw [eB, eC, eC, eW, hl]
  rfl

/-- The codes' window after a point that fills the left operand. -/
theorem read_codes_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : cond0_0 i) (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (f) :
    arg7.view.read (Elt F) (arg7.view.writes (Elt F) f (kernelRun0_A (F := F) c i arg2 harg2 arg3 harg3 arg4 harg4 arg5 harg5 arg6 harg6 arg7 harg7 arg8 harg8 arg9 harg9 arg10 harg10 arg11 harg11 hc0 x0 x1 x2 x3 x4 x6).1.1) = ptO (fun x => x4 (rectG.emb x)) (ptM i x0 x1 x2 x3) := by
  have eA : (fun q => View.readAt (Elt F) arg4.view (rectA q).toLoadRect (harg4.unread x2)) = fun q x => x2 ((rectA q).emb x) :=
    funext fun q => funext fun x => harg4.readAt_unread x2 _ x
  have eL : (fun q => arg9.view.readCov (Val := Elt F) (pcsL fun q => View.readAt (Elt F) arg4.view (rectA q).toLoadRect (harg4.unread x2)) (rectM q).toLoadRect) = fun q x => gL (fun q x => x2 ((rectA q).emb x)) ((rectM q).emb x) := by
    rw [eA]; exact funext fun q => readCov_L _ _ q
  have eG := load_G arg6 harg6 x4
  have eM := loads_M i arg2 harg2 arg3 harg3 arg5 harg5 x0 x1 x2 x3 _ eL
  rw [codes_A, eG, eM]
  exact read_outO _ _ _ _ _ _

/-- The scales' window there: the point's two rows are its scales, -/
theorem read_scales_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : cond0_0 i) (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (f) (p : Fin 2) (x : S1x1x32.Idx) :
    arg8.view.read (Elt F) (arg8.view.writes (Elt F) f (kernelRun0_A (F := F) c i arg2 harg2 arg3 harg3 arg4 harg4 arg5 harg5 arg6 harg6 arg7 harg7 arg8 harg8 arg9 harg9 arg10 harg10 arg11 harg11 hc0 x0 x1 x2 x3 x4 x6).1.2.1) ((rectC i p).emb x) = scaleRow (ptT (fun x => x4 (rectG.emb x)) (ptM i x0 x1 x2 x3) p) x := by
  have eA : (fun q => View.readAt (Elt F) arg4.view (rectA q).toLoadRect (harg4.unread x2)) = fun q x => x2 ((rectA q).emb x) :=
    funext fun q => funext fun x => harg4.readAt_unread x2 _ x
  have eL : (fun q => arg9.view.readCov (Val := Elt F) (pcsL fun q => View.readAt (Elt F) arg4.view (rectA q).toLoadRect (harg4.unread x2)) (rectM q).toLoadRect) = fun q x => gL (fun q x => x2 ((rectA q).emb x)) ((rectM q).emb x) := by
    rw [eA]; exact funext fun q => readCov_L _ _ q
  have eG := load_G arg6 harg6 x4
  have eM := loads_M i arg2 harg2 arg3 harg3 arg5 harg5 x0 x1 x2 x3 _ eL
  rw [scales_A, eG, eM]
  exact read_outS _ _ _ _ _ _ _ _

/-- and every other row is as it was. -/
theorem read_scales_A_of_ne (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : cond0_0 i) (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (f) (y : S1x12x32.Idx) (h : (y 1).val / 2 ≠ (i 1).val) :
    arg8.view.read (Elt F) (arg8.view.writes (Elt F) f (kernelRun0_A (F := F) c i arg2 harg2 arg3 harg3 arg4 harg4 arg5 harg5 arg6 harg6 arg7 harg7 arg8 harg8 arg9 harg9 arg10 harg10 arg11 harg11 hc0 x0 x1 x2 x3 x4 x6).1.2.1) y = arg8.view.read (Elt F) f y := by
  rw [scales_A]
  exact read_outS_of_ne _ _ _ _ _ _ _ h

/-- The carried left operand's buffer there. -/
theorem read_lhs_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : cond0_0 i) (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (f) :
    arg9.view.read (Elt F) (arg9.view.writes (Elt F) f (kernelRun0_A (F := F) c i arg2 harg2 arg3 harg3 arg4 harg4 arg5 harg5 arg6 harg6 arg7 harg7 arg8 harg8 arg9 harg9 arg10 harg10 arg11 harg11 hc0 x0 x1 x2 x3 x4 x6).1.2.2) = gL fun q x => x2 ((rectA q).emb x) := by
  have eA : (fun q => View.readAt (Elt F) arg4.view (rectA q).toLoadRect (harg4.unread x2)) = fun q x => x2 ((rectA q).emb x) :=
    funext fun q => funext fun x => harg4.readAt_unread x2 _ x
  rw [lhs_A, eA]
  exact read_pcsL _ _ _

/-- The codes' window after a point that finds the left operand in its buffer. -/
theorem read_codes_B (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : ¬cond0_0 i) (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (f) :
    arg7.view.read (Elt F) (arg7.view.writes (Elt F) f (kernelRun0_B (F := F) c i arg2 harg2 arg3 harg3 arg4 harg4 arg5 harg5 arg6 harg6 arg7 harg7 arg8 harg8 arg9 harg9 arg10 harg10 arg11 harg11 hc0 x0 x1 x2 x3 x4 x6 (gL fun q x => x2 ((rectA q).emb x))).1.1) = ptO (fun x => x4 (rectG.emb x)) (ptM i x0 x1 x2 x3) := by
  have eL : (fun q => View.readAt (Elt F) arg9.view (rectM q).toLoadRect (harg9.unread (gL fun q x => x2 ((rectA q).emb x)))) = fun q x => gL (fun q x => x2 ((rectA q).emb x)) ((rectM q).emb x) :=
    funext fun q => funext fun x => harg9.readAt_unread _ _ x
  have eG := load_G arg6 harg6 x4
  have eM := loads_M i arg2 harg2 arg3 harg3 arg5 harg5 x0 x1 x2 x3 _ eL
  rw [codes_B, eG, eM]
  exact read_outO _ _ _ _ _ _

/-- The scales' window there: the point's two rows are its scales, -/
theorem read_scales_B (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : ¬cond0_0 i) (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (f) (p : Fin 2) (x : S1x1x32.Idx) :
    arg8.view.read (Elt F) (arg8.view.writes (Elt F) f (kernelRun0_B (F := F) c i arg2 harg2 arg3 harg3 arg4 harg4 arg5 harg5 arg6 harg6 arg7 harg7 arg8 harg8 arg9 harg9 arg10 harg10 arg11 harg11 hc0 x0 x1 x2 x3 x4 x6 (gL fun q x => x2 ((rectA q).emb x))).1.2.1) ((rectC i p).emb x) = scaleRow (ptT (fun x => x4 (rectG.emb x)) (ptM i x0 x1 x2 x3) p) x := by
  have eL : (fun q => View.readAt (Elt F) arg9.view (rectM q).toLoadRect (harg9.unread (gL fun q x => x2 ((rectA q).emb x)))) = fun q x => gL (fun q x => x2 ((rectA q).emb x)) ((rectM q).emb x) :=
    funext fun q => funext fun x => harg9.readAt_unread _ _ x
  have eG := load_G arg6 harg6 x4
  have eM := loads_M i arg2 harg2 arg3 harg3 arg5 harg5 x0 x1 x2 x3 _ eL
  rw [scales_B, eG, eM]
  exact read_outS _ _ _ _ _ _ _ _

/-- and every other row is as it was. -/
theorem read_scales_B_of_ne (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole)
    (hc0 : ¬cond0_0 i) (x0 : Vec F S1x256x4096 .fp8e4m3) (x1 : Vec F S1x12x32 .f32) (x2 : Vec F S1x96x4096 .bf16) (x3 : Vec F S1x256x96 .bf16) (x4 : Vec F S1x1x256 .f32) (x6 : Vec F S1x12x32 .f32) (f) (y : S1x12x32.Idx) (h : (y 1).val / 2 ≠ (i 1).val) :
    arg8.view.read (Elt F) (arg8.view.writes (Elt F) f (kernelRun0_B (F := F) c i arg2 harg2 arg3 harg3 arg4 harg4 arg5 harg5 arg6 harg6 arg7 harg7 arg8 harg8 arg9 harg9 arg10 harg10 arg11 harg11 hc0 x0 x1 x2 x3 x4 x6 (gL fun q x => x2 ((rectA q).emb x))).1.2.1) y = arg8.view.read (Elt F) f y := by
  rw [scales_B]
  exact read_outS_of_ne _ _ _ _ _ _ _ h

end Cert.KernelIdeal.Gen

end
-- ==== Proof.Run.lean ====
/- The kernel's run with its results named: at every grid point the body leaves the codes of the point's blocks in the
   codes' window, and in the scales' window the rows of the batch's points so far. -/
module

public import proofs.«01_k».proof.Proof.Read

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run keeps -/

/-- The windows whose contents are told by a property: the codes and the scales. -/
def named0 : Fin 7 → Bool := fun w => w.val == 5 || w.val == 6

/-- The property: the codes' window holds the point's codes; the scales' window holds the rows of every point of the batch
    up to this one. -/
def Rl (c : Dev nD) : (w : Fin cfg0.W) → Fin cfg0.N → ((cfg0.win w).block.Idx → Elt F (cfg0.win w).elt) → Prop := fun w t X => match w with
  | ⟨5, _⟩ => X = tO m c t
  | ⟨6, _⟩ => ∀ t' : Fin cfg0.N, t'.val ≤ t.val → t'.val / 6 = t.val / 6 → ∀ (p : Fin 2) (x : S1x1x32.Idx), X ((rectC (grid0.coords t') p).emb x) = tS m c t' p x
  | _ => True

/-- The invariant before position n: before the first point every scratch buffer holds anything; afterwards the left operand's
    buffer holds the batch's, the others anything. -/
def PhiS (c : Dev nD) : (n : ℕ) → n ≤ cfg0.N → sProp 𝕄
  | 0, _ => Pipeline.ΦA spec0 c
  | n + 1, hn => iprop(iprop(owns (c : Thread nD τ) scM0_0 fullShare (tL m c ⟨n, hn⟩) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point t. -/
theorem PhiS_succ (c : Dev nD) (t : Fin cfg0.N) :
    PhiS m c (t.val + 1) t.isLt = iprop(iprop(owns (c : Thread nD τ) scM0_0 fullShare (tL m c t) ∗ (∃ d, owns (c : Thread nD τ) scM0_1 fullShare d) ∗ (∃ d, owns (c : Thread nD τ) scM0_2 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare (tL m c ⟨n - 1, by omega⟩) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the pipeline on core c: the arrays as the region finds them, each input's buffer left at its block, the
    two results told by the property above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q _ := fullShare
  owed _ := 0

/-- The proof data's arrays are the ones the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each input's window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- What it finds there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- The run's relational proof data. -/
abbrev rdat (c : Dev nD) : Pipeline.RDat τ (Elt F) Unit ℕ (UR sig nD τ) ℕ cfg0 c := (dats m 0 c).toRRel named0 (Rl m c)

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

/-- The grid's second coordinate at point t. -/
theorem coords_1 (t : Fin cfg0.N) : (grid0.coords t 1).val = t.val % 6 := by
  have e1 : (grid0.coords t 1).val = t.val / 1 % 6 := Pipeline.Grid.coords_val t 1 (by decide) rfl
  rw [e1, Nat.div_one]

/-- The scales' property at a batch's first point, from the point's own rows. -/
theorem Rl6_first (c : Dev nD) (t : Fin cfg0.N) (h0 : t.val % 6 = 0) (X : S1x12x32.Idx → F .f32)
    (hX : ∀ p x, X ((rectC (grid0.coords t) p).emb x) = tS m c t p x) : Rl m c 6 t X := by
  intro t' hle hdiv p x
  obtain rfl : t' = t := Fin.ext (by omega)
  exact hX p x

/-- The scales' property at a later point, from what the point before left and the point's own rows. -/
theorem Rl6_next (c : Dev nD) (t : Fin cfg0.N) (h0 : t.val % 6 ≠ 0) (X Y : S1x12x32.Idx → F .f32) (hY : (rdat m c).Finds 6 t Y)
    (hX : ∀ p x, X ((rectC (grid0.coords t) p).emb x) = tS m c t p x)
    (hne : ∀ y : S1x12x32.Idx, (y 1).val / 2 ≠ (grid0.coords t 1).val → X y = Y y) : Rl m c 6 t X := by
  have hf := (rdat m c).finds_of_pos (w := 6) (t := t) rfl (by omega) Y |>.1 hY
  have hfl : ¬ (cfg0.win 6).flush ⟨t.val - 1, Nat.lt_of_le_of_lt (Nat.sub_le _ _) t.isLt⟩ = true := fun h => by
    have := (flush0_6 _).1 h
    simp only at this
    omega
  have hl := (dats m 0 c).toRRel_leaves (fgt := named0) (Rl := Rl m c) (w := 6) rfl (hf.resolve_left hfl)
  intro t' hle hdiv p x
  by_cases e : t' = t
  · subst e; exact hX p x
  · have hlt : t'.val < t.val := lt_of_le_of_ne hle fun h => e (Fin.ext h)
    rw [hne _ (by rw [row_rectC, coords_1, coords_1]; omega)]
    exact hl t' (by show t'.val ≤ t.val - 1; omega) (by show t'.val / 6 = (t.val - 1) / 6; omega) p x

set_option maxHeartbeats 6400000 in
/-- The body at any point: it finds the inputs' blocks, and leaves the results by the property. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 36 := lt_of_lt_of_eq t.isLt (show cfg0.N = 36 from N_0)
  by_cases h0 : t.val % 6 = 0
  · by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, %hd5, H5⟩, ⟨%d6, %hd6, H6⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) d6).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, ⟨%e5, H5⟩, H6, ⟨%es0, HS0⟩, HS1, HS2⟩
      isplitl [HS0 HS1 HS2 Hg]
      · isplitl [HS0 HS1 HS2]
        · isplitl [HS0]
          · unfold owns; iexists _; isplitr
            swap; · iexact HS0
            ipureintro; exact read_lhs_A c _ _ _ _ _ _ _ _ _ _ _ _ _ _ _ _ _ _ _ _ _ _ _ _ _ _ _ _ _
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists (tO m c t); isplitr
        · ipureintro; rfl
        · unfold owns; iexists _; isplitr
          swap; · iexact H5
          ipureintro; exact read_codes_A c _ _ _ _ _ _ _ _ _ _ _ _ _ _ _ _ _ _ _ _ _ _ _ _ _ _ _ _ _
      unfold owns
      iexists _; isplitr
      swap
      · iexists _; isplitr
        swap; · iexact H6
        ipureintro; rfl
      ipureintro
      exact Rl6_first m c t h0 _ fun p x => read_scales_A c _ _ _ _ _ _ _ _ _ _ _ _ _ _ _ _ _ _ _ _ _ _ _ _ _ _ _ _ _ p x
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, %hd5, H5⟩, ⟨%d6, %hd6, H6⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) d6).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      isplitl [HS1]; · iexact HS1
      isplitl [HS2]; · iexact HS2
      iintro ⟨H0, H1, H2, H3, H4, ⟨%e5, H5⟩, H6, ⟨%es0, HS0⟩, HS1, HS2⟩
      isplitl [HS0 HS1 HS2 Hg]
      · isplitl [HS0 HS1 HS2]
        · isplitl [HS0]
          · unfold owns; iexists _; isplitr
            swap; · iexact HS0
            ipureintro; exact read_lhs_A c _ _ _ _ _ _ _ _ _ _ _ _ _ _ _ _ _ _ _ _ _ _ _ _ _ _ _ _ _
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists (tO m c t); isplitr
        · ipureintro; rfl
        · unfold owns; iexists _; isplitr
          swap; · iexact H5
          ipureintro; exact read_codes_A c _ _ _ _ _ _ _ _ _ _ _ _ _ _ _ _ _ _ _ _ _ _ _ _ _ _ _ _ _
      unfold owns
      iexists _; isplitr
      swap
      · iexists _; isplitr
        swap; · iexact H6
        ipureintro; rfl
      ipureintro
      exact Rl6_first m c t h0 _ fun p x => read_scales_A c _ _ _ _ _ _ _ _ _ _ _ _ _ _ _ _ _ _ _ _ _ _ _ _ _ _ _ _ _ p x
  · have hz : t.val ≠ 0 := by omega
    rw [PhiS_castSucc m c t, PhiS_pos m c _ _ hz, tL_congr m c ⟨t.val - 1, by omega⟩ t (by show (t.val - 1) / 6 = t.val / 6; omega)]
    unfold tL
    iintro ⟨⟨⟨HS0, HS1, HS2⟩, Hg⟩, Ho, ⟨%d0, H0⟩, ⟨%d1, H1⟩, ⟨%d2, H2⟩, ⟨%d3, H3⟩, ⟨%d4, H4⟩, ⟨%d5, %hd5, H5⟩, ⟨%d6, %hd6, H6⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) d6 _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    iintro ⟨H0, H1, H2, H3, H4, ⟨%e5, H5⟩, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists (tO m c t); isplitr
      · ipureintro; rfl
      · unfold owns; iexists _; isplitr
        swap; · iexact H5
        ipureintro; exact read_codes_B c _ _ _ _ _ _ _ _ _ _ _ _ _ _ _ _ _ _ _ _ _ _ _ _ _ _ _ _ _
    unfold owns
    iexists _; isplitr
    swap
    · iexists _; isplitr
      swap; · iexact H6
      ipureintro; rfl
    ipureintro
    refine Rl6_next m c t h0 _ d6 hd6 (fun p x => read_scales_B c _ _ _ _ _ _ _ _ _ _ _ _ _ _ _ _ _ _ _ _ _ _ _ _ _ _ _ _ _ p x) fun y hy => ?_
    exact (read_scales_B_of_ne c _ _ _ _ _ _ _ _ _ _ _ _ _ _ _ _ _ _ _ _ _ _ _ _ _ _ _ _ _ y hy).trans (congrFun ((hs0_6 t).read_unread d6) y)

/-- The body that the pipeline calls at point t. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : Pipeline.BodyObligationRel (dats (F := F) m 0 c) (defs₀ (F := F)) Variants.none () Set.univ named0 (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

set_option backward.isDefEq.respectTransparency.types false in
/-- From any memory with zero counters every fair execution ends, the arrays as the property tells, every counter zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- A run to the arrays' property leaves the arguments as they were. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-- The frame: the arguments end as they began, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of_rel m ρ (rdat m) (A_eq m) (run_main m ρ)) ((θ_run defs _ _).mono (fun _ h => h.2) (run_main_quiescent m ρ))

end Cert.KernelIdeal.Gen

end
-- ==== Proof.KBody.lean ====
/- The kernel over the machine formats: its branch condition, its staging buffers and its scratch. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A run whose final arrays are known by the pipeline leaves the arguments unchanged. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-- The branch condition of the body, from the grid coordinates. -/
abbrev cond0_0 (i : grid0.Coords) : Prop := (Scalar.cmpi .ne (Scalar.extui (Scalar.cmpi .eq (BitVec.ofNat 32 (i 1).val) 0#32)) 0#32) = 1#1
/-- The branch is taken exactly at the points whose second coordinate is zero. -/
theorem hcond0_0 : ∀ t : Fin cfg0.N, cond0_0 (grid0.coords t) ↔ t.val % 6 = 0 :=
  (fun t => by
    have ht : t.val < 36 := Nat.lt_of_lt_of_eq t.isLt N_0
    have e0 : (grid0.coords t 0).val = t.val / 6 % 6 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-- The current staging buffer of each window at a point, and that it is a whole buffer. -/
abbrev ms0_0 (t : Fin cfg0.N) : Memref sig .tc .vmem S1x256x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x96 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x12x32 .f32 := win0_6.stage (cfg0.slots t 6)
abbrev hs0_6 (t : Fin cfg0.N) : (ms0_6 t).IsWhole := hstage0_6 ((cfg0.slots t 6).cast nbuf0_6)
/-- The three scratch buffers as whole memory references. -/
abbrev scM0_0 : Memref sig .tc .vmem S32x128x256 .bf16 := Memref.whole cc0_scratch0
abbrev scM0_1 : Memref sig .tc .vmem S32x128x256 .f32 := Memref.whole cc0_scratch1
abbrev scM0_2 : Memref sig .tc .vmem S2x256x128 .f32 := Memref.whole cc0_scratch2
/-- The first scratch buffer as a view. -/
abbrev VS0_0 : View sig .tc .vmem S32x128x256 .bf16 := scM0_0.view

/-- The invariant of the class, with each scratch buffer owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
/- The body of the kernel run in the case that fills its first scratch. -/
module

public import proofs.«01_k».proof.Proof.KBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4336000 in
/-- The body in the case that fills the first scratch: from whole staging buffers it runs to its end; the pieces it stored are the witness. -/
noncomputable def kernelRun0_A (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole) (hc0 : cond0_0 i)
    (x0 : Vec F S1x256x4096 .fp8e4m3) (x1 : Vec F S1x12x32 .f32) (x2 : Vec F S1x96x4096 .bf16) (x3 : Vec F S1x256x96 .bf16) (x4 : Vec F S1x1x256 .f32) :
    { LS0 : List (View.Piece (Elt F) S32x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d)) -∗ K ⟨⟩))
          ⊢ wp frame (wpE (defs₀ (F := F)) Variants.none c none) E (cc0_dora_merge i arg2 harg2 arg3 harg3 arg4 harg4 arg5 harg5 arg6 harg6 arg7 harg7 arg8 harg8 arg9 harg9 arg10 harg10 arg11 harg11) K } := by
  refine ⟨?_, fun E K => ?run⟩
  case run =>
    simp only [cc0_dora_merge_eq_skeleton]; unfold cc0_dora_merge_skel
    simp only [k0_part69_eq_skeleton, k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Gen

end
-- ==== Proof.KRunB.lean ====
/- The body of the kernel run in the case that reads its first scratch as it is. -/
module

public import proofs.«01_k».proof.Proof.KRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3352000 in
/-- The body in the case that leaves the first scratch as it was. -/
noncomputable def kernelRun0_B (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole) (hc0 : ¬cond0_0 i)
    (x0 : Vec F S1x256x4096 .fp8e4m3) (x1 : Vec F S1x12x32 .f32) (x2 : Vec F S1x96x4096 .bf16) (x3 : Vec F S1x256x96 .bf16) (x4 : Vec F S1x1x256 .f32) (xs0 : Vec F S32x128x256 .bf16) :
    { LS0 : List (View.Piece (Elt F) S32x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d)) -∗ K ⟨⟩))
          ⊢ wp frame (wpE (defs₀ (F := F)) Variants.none c none) E (cc0_dora_merge i arg2 harg2 arg3 harg3 arg4 harg4 arg5 harg5 arg6 harg6 arg7 harg7 arg8 harg8 arg9 harg9 arg10 harg10 arg11 harg11) K } := by
  refine ⟨[], fun E K => ?run⟩
  case run =>
    simp only [cc0_dora_merge_eq_skeleton]; unfold cc0_dora_merge_skel
    simp only [k0_part69_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.Kernel.Gen

end
-- ==== Proof.KRun.lean ====
/- The frame of the kernel over the machine formats: it runs to its end and leaves its arguments unchanged. -/
module

public import proofs.«01_k».proof.Proof.KRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces stored into the first scratch cover it. -/
theorem scover0_A_0 (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole) (hc0 : cond0_0 i)
    (x0 : Vec F S1x256x4096 .fp8e4m3) (x1 : Vec F S1x12x32 .f32) (x2 : Vec F S1x96x4096 .bf16) (x3 : Vec F S1x256x96 .bf16) (x4 : Vec F S1x1x256 .f32) (y : S32x128x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4).1 S1x128x128.size (by sl_kernel_rfl) y

/-- What the filling case leaves in the first scratch. -/
def sout0_A_0 (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole) (hc0 : cond0_0 i)
    (x0 : Vec F S1x256x4096 .fp8e4m3) (x1 : Vec F S1x12x32 .f32) (x2 : Vec F S1x96x4096 .bf16) (x3 : Vec F S1x256x96 .bf16) (x4 : Vec F S1x1x256 .f32) : Vec F S32x128x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4).1)

/-- The other case leaves the first scratch as it was. -/
def sout0_B_0 (c : Dev nD) (i : grid0.Coords) (arg2 : Memref sig .tc .vmem S1x256x4096 .fp8e4m3) (harg2 : arg2.IsWhole) (arg3 : Memref sig .tc .vmem S1x12x32 .f32) (harg3 : arg3.IsWhole) (arg4 : Memref sig .tc .vmem S1x96x4096 .bf16) (harg4 : arg4.IsWhole) (arg5 : Memref sig .tc .vmem S1x256x96 .bf16) (harg5 : arg5.IsWhole) (arg6 : Memref sig .tc .vmem S1x1x256 .f32) (harg6 : arg6.IsWhole) (arg7 : Memref sig .tc .vmem S1x256x4096 .fp8e4m3) (harg7 : arg7.IsWhole) (arg8 : Memref sig .tc .vmem S1x12x32 .f32) (harg8 : arg8.IsWhole) (arg9 : Memref sig .tc .vmem S32x128x256 .bf16) (harg9 : arg9.IsWhole) (arg10 : Memref sig .tc .vmem S32x128x256 .f32) (harg10 : arg10.IsWhole) (arg11 : Memref sig .tc .vmem S2x256x128 .f32) (harg11 : arg11.IsWhole) (hc0 : ¬cond0_0 i)
    (x0 : Vec F S1x256x4096 .fp8e4m3) (x1 : Vec F S1x12x32 .f32) (x2 : Vec F S1x96x4096 .bf16) (x3 : Vec F S1x256x96 .bf16) (x4 : Vec F S1x1x256 .f32) (xs0 : Vec F S32x128x256 .bf16) : Vec F S32x128x256 .bf16 := xs0

/-- What the first scratch holds after each point. -/
def outsAt0 (c : Dev nD) : (n : ℕ) → n < cfg0.N → Vec F S32x128x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 6 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- After a point of the filling case. -/
theorem outsAt0_A (c : Dev nD) (t : Fin cfg0.N) (h0 : t.val % 6 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- After a point of the other case. -/
theorem outsAt0_B (c : Dev nD) (t : Fin cfg0.N) (h0 : ¬t.val % 6 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before a point: afterwards the first scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The two output windows, whose contents this module does not name. -/
def forgets0 : Fin 7 → Bool := fun w => w.val == 5 || w.val == 6

/-- The proof data of the pipeline: inputs at their blocks, outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q _ := fullShare
  owed _ := 0

/-- The arrays of the proof data are those the region finds. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each input window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input window holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- What the body gives back at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 6400000 in
/-- The body at a point takes what it is given to what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 36 := lt_of_lt_of_eq t.isLt (show cfg0.N = 36 from N_0)
  by_cases h0 : t.val % 6 = 0
  · by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      isplitl [HS1]; · iexact HS1
      isplitl [HS2]; · iexact HS2
      iintro ⟨H0, H1, H2, H3, H4, H5, H6, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases hz : t.val = 0
    · exfalso; have hN : t.val < 36 := lt_of_lt_of_eq t.isLt (show cfg0.N = 36 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body of the pipeline at a point. -/
theorem defs₀_row (t : Fin cfg0.N) :
    defs₀ (F := F) .tc cfg0.body (cfg0.bodyArgs t (cfg0.slots t)) = bodyAt0 t := by
  unfold defs₀; rw [Defs.onTc_tc]

/-- The obligation of the pipeline about its body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant of the class gives the first invariant. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- An invariant after the first point gives back the invariant of the class. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The last invariant gives back the invariant of the class. -/
theorem hout (c : Dev nD) : (dats m 0 c).Φ (Fin.last cfg0.N) ⊢ Pipeline.ΦA spec0 c :=
  Phi_out m c _ (by rw [Fin.val_last]; have : cfg0.N = 36 := N_0; omega)

set_option backward.isDefEq.respectTransparency.types false in
/-- The whole program runs to its end, its arguments unchanged, every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs to its end. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rel m ρ (fun c => (dats m 0 c).toRForget forgets0) (A_eq m) (run_main m ρ)

/-- The frame: the program runs to its end, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Algebra.lean ====
/- Arithmetic over the extended reals: the norm of a row, the rescaling of a row by it, and what a constant factor on the
   row does to both. -/
module

public import Idealize.ShloMosaic.PureOps.Ideal

@[expose] public section

noncomputable section

namespace Cert.Dora

open Idealize.ShloMosaic

/-- The absolute value as the larger of a number and its negative. -/
def ab (x : EReal) : EReal := max x (-x)

/-- The norm of a row: the root of its sum of squares, one where that is zero. -/
def nrm {ι : Type} [Fintype ι] (m : ι → EReal) : EReal :=
  if Ideal.sqrt (∑ i, m i * m i) = 0 then 1 else Ideal.sqrt (∑ i, m i * m i)

/-! ## Absolute values -/

theorem coe_max' (a b : ℝ) : ((max a b : ℝ) : EReal) = max (a : EReal) (b : EReal) := EReal.coe_strictMono.monotone.map_max

theorem ab_eq (x : EReal) : ab x = ((x.abs : ENNReal) : EReal) := by
  unfold ab
  induction x with
  | bot => simp
  | top => simp
  | coe r =>
    rw [EReal.abs_def, EReal.coe_ennreal_ofReal, max_eq_left (abs_nonneg r), ← EReal.coe_neg, ← coe_max']
    rfl

theorem ab_mul (x y : EReal) : ab (x * y) = ab x * ab y := by
  rw [ab_eq, ab_eq, ab_eq, EReal.abs_mul, EReal.coe_ennreal_mul]

theorem ab_nonneg (x : EReal) : 0 ≤ ab x := by rw [ab_eq]; exact EReal.coe_ennreal_nonneg _

theorem ab_zero : ab 0 = 0 := by simp [ab]

/-! ## Sums of squares -/

theorem sq_nonneg' (x : EReal) : 0 ≤ x * x := by
  rcases le_total 0 x with h | h
  · exact EReal.mul_nonneg h h
  · exact EReal.mul_nonneg_iff.2 (Or.inr ⟨h, h⟩)

theorem sumsq_nonneg {ι : Type} [Fintype ι] (m : ι → EReal) : 0 ≤ ∑ i, m i * m i :=
  Finset.sum_nonneg fun i _ => sq_nonneg' (m i)

/-- A finite factor that is not negative moves into a sum. -/
theorem mul_sum_coe {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih, EReal.left_distrib_of_nonneg_of_ne_top (EReal.coe_nonneg.2 hc) (EReal.coe_ne_top c)]

/-- Three times a row has nine times its sum of squares. -/
theorem sumsq_three {ι : Type} [Fintype ι] (m : ι → EReal) :
    ∑ i, (((3 : ℝ) : EReal) * m i) * (((3 : ℝ) : EReal) * m i) = ((9 : ℝ) : EReal) * ∑ i, m i * m i := by
  rw [mul_sum_coe _ 9 (by norm_num)]
  refine Finset.sum_congr rfl fun i _ => ?_
  rw [mul_mul_mul_comm, ← EReal.coe_mul]
  norm_num

theorem zero_of_sumsq {ι : Type} [Fintype ι] (m : ι → EReal) (h : ∑ i, m i * m i = 0) (i : ι) : m i = 0 := by
  have h1 : m i * m i ≤ 0 := h ▸ Finset.single_le_sum (f := fun i => m i * m i) (fun i _ => sq_nonneg' (m i)) (Finset.mem_univ i)
  have h2 : m i * m i = 0 := le_antisymm h1 (sq_nonneg' _)
  rcases mul_eq_zero.1 h2 with h | h <;> exact h

theorem le_of_sumsq {ι : Type} [Fintype ι] (m : ι → EReal) (r : ℝ) (h : ∑ i, m i * m i = (r : EReal)) (i : ι) :
    ∃ x : ℝ, m i = (x : EReal) ∧ |x| ≤ Real.sqrt r := by
  have h1 : m i * m i ≤ (r : EReal) := h ▸ Finset.single_le_sum (f := fun i => m i * m i) (fun i _ => sq_nonneg' (m i)) (Finset.mem_univ i)
  induction hm : m i with
  | bot => rw [hm] at h1; simp at h1
  | top => rw [hm] at h1; simp at h1
  | coe x =>
    refine ⟨x, rfl, ?_⟩
    rw [hm, ← EReal.coe_mul, EReal.coe_le_coe_iff] at h1
    exact Real.abs_le_sqrt (by rw [sq]; exact h1)

theorem sqrt_top : Ideal.sqrt ⊤ = ⊤ := rfl

theorem div_top (g : EReal) : Ideal.div g ⊤ = 0 := by
  unfold Ideal.div
  rw [if_neg EReal.top_ne_zero, EReal.inv_top, mul_zero]

/-- The three cases of a row: its sum of squares infinite, zero, or finite and positive. -/
theorem nrm_cases {ι : Type} [Fintype ι] (m : ι → EReal) :
    (∑ i, m i * m i = ⊤ ∧ nrm m = ⊤) ∨ (∀ i, m i = 0) ∨ ∃ r : ℝ, 0 < r ∧ ∑ i, m i * m i = (r : EReal) ∧ nrm m = ((Real.sqrt r : ℝ) : EReal) := by
  have h0 := sumsq_nonneg m
  unfold nrm
  generalize hS : ∑ i, m i * m i = S at *
  induction S with
  | bot => simp at h0
  | top => left; exact ⟨rfl, by rw [sqrt_top, if_neg EReal.top_ne_zero]⟩
  | coe r =>
    right
    have hr : 0 ≤ r := EReal.coe_nonneg.1 h0
    rcases hr.eq_or_lt with h | h
    · left; exact zero_of_sumsq m (by rw [hS, ← h]; rfl)
    · right
      refine ⟨r, h, rfl, ?_⟩
      rw [Ideal.sqrt_coe, if_neg (not_lt.2 hr), if_neg]
      rw [EReal.coe_eq_zero]
      exact (Real.sqrt_pos.2 h).ne'

/-- Rescaling a row to a given norm does not see a factor of three on the row. -/
theorem three_mul_div_nrm {ι : Type} [Fintype ι] (m : ι → EReal) (g : EReal) (i : ι) :
    (((3 : ℝ) : EReal) * m i) * Ideal.div g (nrm fun i => ((3 : ℝ) : EReal) * m i) = m i * Ideal.div g (nrm m) := by
  have h3 := sumsq_three m
  rcases nrm_cases m with ⟨hS, hn⟩ | hz | ⟨r, hr, hS, hn⟩
  · have h9 : nrm (fun i => ((3 : ℝ) : EReal) * m i) = ⊤ := by
      unfold nrm
      rw [h3, hS, EReal.coe_mul_top_of_pos (by norm_num), sqrt_top, if_neg EReal.top_ne_zero]
    rw [h9, hn, div_top, mul_zero, mul_zero]
  · rw [hz i, mul_zero, zero_mul, zero_mul]
  · have hs : 0 < Real.sqrt r := Real.sqrt_pos.2 hr
    have h9 : nrm (fun i => ((3 : ℝ) : EReal) * m i) = ((3 * Real.sqrt r : ℝ) : EReal) := by
      have e : Real.sqrt (9 * r) = 3 * Real.sqrt r := by
        rw [Real.sqrt_mul (by norm_num), show (9 : ℝ) = 3 ^ 2 by norm_num, Real.sqrt_sq (by norm_num)]
      unfold nrm
      rw [h3, hS, ← EReal.coe_mul, Ideal.sqrt_coe, if_neg (not_lt.2 (by positivity)), e, if_neg]
      rw [EReal.coe_eq_zero]
      positivity
    rw [h9, hn, Ideal.div_coe (by positivity), Ideal.div_coe hs.ne', mul_comm ((3 : ℝ) : EReal) (m i), mul_assoc, mul_comm g, ← mul_assoc ((3 : ℝ) : EReal), ← EReal.coe_mul,
      show 3 * (1 / (3 * Real.sqrt r)) = 1 / Real.sqrt r by field_simp, mul_comm g]

/-- An entry of a row rescaled to the norm g is at most g. -/
theorem ab_mul_div_nrm_le {ι : Type} [Fintype ι] (m : ι → EReal) (g : EReal) (i : ι) : ab (m i * Ideal.div g (nrm m)) ≤ ab g := by
  rcases nrm_cases m with ⟨hS, hn⟩ | hz | ⟨r, hr, hS, hn⟩
  · rw [hn, div_top, mul_zero, ab_zero]; exact ab_nonneg g
  · rw [hz i, zero_mul, ab_zero]; exact ab_nonneg g
  · have hs : 0 < Real.sqrt r := Real.sqrt_pos.2 hr
    obtain ⟨x, hx, hle⟩ := le_of_sumsq m r hS i
    rw [hn, Ideal.div_coe hs.ne', hx, mul_comm g, ← mul_assoc, ← EReal.coe_mul, ab_mul]
    have h1 : ab ((x * (1 / Real.sqrt r) : ℝ) : EReal) ≤ 1 := by
      unfold ab
      have h := abs_le.1 hle
      rw [← EReal.coe_neg, ← coe_max', ← EReal.coe_one, EReal.coe_le_coe_iff, mul_one_div]
      refine max_le ((div_le_one hs).2 h.2) ?_
      rw [← neg_div]
      exact (div_le_one hs).2 (by linarith)
    calc ab ((x * (1 / Real.sqrt r) : ℝ) : EReal) * ab g ≤ 1 * ab g := mul_le_mul_of_nonneg_right h1 (ab_nonneg g)
      _ = ab g := one_mul _

/-! ## Largest entries -/

/-- A factor that is not negative moves into the largest of finitely many numbers. -/
theorem sup_mul {ι : Type} [Fintype ι] [Nonempty ι] (f : ι → EReal) (c : EReal) (hc : 0 ≤ c) :
    (Finset.univ.sup f) * c = Finset.univ.sup fun i => f i * c := by
  refine le_antisymm ?_ (Finset.sup_le fun i hi => mul_le_mul_of_nonneg_right (Finset.le_sup hi) hc)
  obtain ⟨i, hi, e⟩ := Finset.exists_mem_eq_sup Finset.univ Finset.univ_nonempty f
  rw [e]
  exact Finset.le_sup (f := fun i => f i * c) hi

theorem fold_max_eq_sup {ι : Type} [Fintype ι] (f : ι → EReal) : Finset.univ.fold max ⊥ f = Finset.univ.sup f := rfl

theorem fold_min_eq_inf {ι : Type} [Fintype ι] (f : ι → EReal) : Finset.univ.fold min ⊤ f = Finset.univ.inf f := rfl

end Cert.Dora

end
-- ==== Proof.Scale.lean ====
/- The power-of-two scale of a block: the search by the bits of the exponent field finds the least power of two above the
   largest entry over the largest code, and the word built for its inverse is its inverse. -/
module

public import Idealize.ShloMosaic.PureOps.Ideal

@[expose] public section

set_option exponentiation.threshold 1024

noncomputable section

namespace Cert.Dora

open Idealize.ShloMosaic

/-! ## The search, on one number -/

/-- One step: keep the bit b of the exponent field if the power with it is at most t. -/
def stepS (t : EReal) (b e : BitVec 32) : BitVec 32 :=
  if Ideal.ofBits .f32 (IntOp.shli .vector (IntOp.addi e b) 23#32) ≤ t then IntOp.addi e b else e

/-- The exponent of the scale. -/
def expS (t : EReal) : BitVec 32 :=
  if t = 0 then 0#32
  else IntOp.subi (stepS t 1#32 (stepS t 2#32 (stepS t 4#32 (stepS t 8#32 (stepS t 16#32 (stepS t 32#32 (stepS t 64#32 (stepS t 128#32 0#32)))))))) 126#32

/-- The scale and its inverse, as the words built from the exponent. -/
def scaleS (t : EReal) : EReal := Ideal.ofBits .f32 (IntOp.shli .vector (IntOp.addi (expS t) 127#32) 23#32)
def invS (t : EReal) : EReal := Ideal.ofBits .f32 (IntOp.shli .vector (IntOp.subi 127#32 (expS t)) 23#32)

/-- One over the largest code, as it is rounded. -/
def cst : EReal := Ideal.ofBits .f32 0x3B124925#32

/-- The scale by its meaning: one for a block of zeros, else the least power of two above the largest entry over the largest code. -/
def scaleR (a : EReal) : EReal :=
  if a = 0 then 1
  else Finset.univ.fold min ⊤ fun k : Fin 253 => if a * cst < (((2 : ℝ) ^ ((k.val : ℤ) - 126) : ℝ) : EReal) then (((2 : ℝ) ^ ((k.val : ℤ) - 126) : ℝ) : EReal) else ⊤

/-! ## Words -/

theorem word_fields : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- The word with exponent field k, between 1 and 254, is two to the k less 127. -/
theorem ofBits_field (k : ℕ) (h1 : 1 ≤ k) (h2 : k ≤ 254) :
    Ideal.ofBits .f32 (IntOp.shli .vector (BitVec.ofNat 32 k) 23#32) = (((2 : ℝ) ^ ((k : ℤ) - 127) : ℝ) : EReal) := by
  obtain ⟨e1, e2, e3⟩ := word_fields ⟨k, by omega⟩
  simp only at e1 e2 e3
  unfold Ideal.ofBits Ideal.ieee
  simp only [Nat.reduceAdd, e1, e2, e3]
  rw [if_neg (by norm_num; omega), if_neg (by omega)]
  refine congrArg _ ?_
  simp only [add_zero]
  rw [if_neg (by decide), one_mul, Nat.cast_pow, Nat.cast_ofNat, ← zpow_natCast, ← zpow_add₀ (by norm_num)]
  refine congrArg _ ?_
  norm_num

theorem ofBits_field_top : Ideal.ofBits .f32 (IntOp.shli .vector (BitVec.ofNat 32 255) 23#32) = ⊤ := by
  obtain ⟨e1, e2, e3⟩ := word_fields ⟨255, by omega⟩
  simp only at e1 e2 e3
  unfold Ideal.ofBits Ideal.ieee
  simp only [Nat.reduceAdd, e1, e2, e3]
  norm_num

theorem word_scale : ∀ k : Fin 253, IntOp.addi (IntOp.subi (BitVec.ofNat 32 k.val) 126#32) 127#32 = BitVec.ofNat 32 (k.val + 1)
    ∧ IntOp.subi 127#32 (IntOp.subi (BitVec.ofNat 32 k.val) 126#32) = BitVec.ofNat 32 (253 - k.val)
    ∧ (IntOp.subi (BitVec.ofNat 32 k.val) 126#32).toInt = (k.val : ℤ) - 126 := by
  decide +kernel

theorem addi_ofNat (a b : ℕ) : IntOp.addi (BitVec.ofNat 32 a) (BitVec.ofNat 32 b) = BitVec.ofNat 32 (a + b) := by
  unfold IntOp.addi
  exact (BitVec.ofNat_add a b).symm

/-! ## The search finds the exponent field -/

/-- What is known with width w still to search: the field e is at most t's, and adding w passes it. -/
def Inv (t : ℝ) (e w : ℕ) : Prop := e + w ≤ 256 ∧ (e = 0 ∨ (2 : ℝ) ^ ((e : ℤ) - 127) ≤ t) ∧ (t < (2 : ℝ) ^ ((e : ℤ) + w - 127))

theorem pow_mono {a b : ℤ} (h : a ≤ b) : (2 : ℝ) ^ a ≤ (2 : ℝ) ^ b := zpow_le_zpow_right₀ (by norm_num) h

theorem step_inv (t : ℝ) (ht : t < (2 : ℝ) ^ (126 : ℤ)) (b : ℕ) (hb : 1 ≤ b) (e : ℕ) (h : Inv t e (2 * b)) :
    ∃ e', stepS (t : EReal) (BitVec.ofNat 32 b) (BitVec.ofNat 32 e) = BitVec.ofNat 32 e' ∧ Inv t e' b := by
  obtain ⟨h0, h1, h2⟩ := h
  unfold stepS
  rw [addi_ofNat]
  by_cases hk : e + b ≤ 254
  · rw [ofBits_field (e + b) (by omega) hk]
    by_cases hc : (2 : ℝ) ^ (((e + b : ℕ) : ℤ) - 127) ≤ t
    · rw [if_pos (EReal.coe_le_coe_iff.2 hc)]
      refine ⟨e + b, rfl, by omega, Or.inr hc, lt_of_lt_of_le h2 (pow_mono (by push_cast; omega))⟩
    · rw [if_neg fun h => hc (EReal.coe_le_coe_iff.1 h)]
      exact ⟨e, rfl, by omega, h1, lt_of_lt_of_le (not_le.1 hc) (pow_mono (by push_cast; omega))⟩
  · have hk' : e + b = 255 := by omega
    rw [hk', ofBits_field_top, if_neg (not_le.2 (EReal.coe_lt_top t))]
    exact ⟨e, rfl, by omega, h1, lt_trans ht (lt_of_lt_of_le (zpow_lt_zpow_right₀ (by norm_num) (by norm_num : (126 : ℤ) < 127)) (pow_mono (by omega)))⟩

/-- For a positive t below two to the 126, the exponent is k less 126, with t between the k-th power and the next. -/
theorem expS_spec (t : ℝ) (h0 : 0 < t) (ht : t < (2 : ℝ) ^ (126 : ℤ)) :
    ∃ k : ℕ, k ≤ 252 ∧ expS (t : EReal) = IntOp.subi (BitVec.ofNat 32 k) 126#32 ∧ (k = 0 ∨ (2 : ℝ) ^ ((k : ℤ) - 127) ≤ t) ∧ t < (2 : ℝ) ^ ((k : ℤ) - 126) := by
  have i0 : Inv t 0 (2 * 128) := ⟨by norm_num, Or.inl rfl, lt_of_lt_of_le ht (pow_mono (by norm_num))⟩
  obtain ⟨e1, q1, i1⟩ := step_inv t ht 128 (by norm_num) 0 i0
  obtain ⟨e2, q2, i2⟩ := step_inv t ht 64 (by norm_num) e1 i1
  obtain ⟨e3, q3, i3⟩ := step_inv t ht 32 (by norm_num) e2 i2
  obtain ⟨e4, q4, i4⟩ := step_inv t ht 16 (by norm_num) e3 i3
  obtain ⟨e5, q5, i5⟩ := step_inv t ht 8 (by norm_num) e4 i4
  obtain ⟨e6, q6, i6⟩ := step_inv t ht 4 (by norm_num) e5 i5
  obtain ⟨e7, q7, i7⟩ := step_inv t ht 2 (by norm_num) e6 i6
  obtain ⟨k, q8, j0, j1, j2⟩ := step_inv t ht 1 (by norm_num) e7 i7
  refine ⟨k, ?_, ?_, j1, lt_of_lt_of_le j2 (pow_mono (by push_cast; omega))⟩
  · rcases j1 with rfl | j1
    · omega
    · have := (zpow_lt_zpow_iff_right₀ (by norm_num : (1 : ℝ) < 2)).1 (lt_of_le_of_lt j1 ht)
      omega
  · unfold expS
    rw [if_neg (by rw [EReal.coe_eq_zero]; exact h0.ne')]
    rw [q1, q2, q3, q4, q5, q6, q7, q8]

/-! ## The scale is the least power above -/

theorem inf_powers (t : ℝ) (k : ℕ) (hk : k ≤ 252) (h1 : k = 0 ∨ (2 : ℝ) ^ ((k : ℤ) - 127) ≤ t) (h2 : t < (2 : ℝ) ^ ((k : ℤ) - 126)) :
    (Finset.univ.fold min ⊤ fun k : Fin 253 => if (t : EReal) < (((2 : ℝ) ^ ((k.val : ℤ) - 126) : ℝ) : EReal) then (((2 : ℝ) ^ ((k.val : ℤ) - 126) : ℝ) : EReal) else ⊤)
      = (((2 : ℝ) ^ ((k : ℤ) - 126) : ℝ) : EReal) := by
  change Finset.univ.inf _ = _
  refine le_antisymm ?_ (Finset.le_inf fun j _ => ?_)
  · refine (Finset.inf_le (Finset.mem_univ (⟨k, by omega⟩ : Fin 253))).trans ?_
    simp only
    rw [if_pos (EReal.coe_lt_coe_iff.2 h2)]
  · by_cases hj : (t : EReal) < (((2 : ℝ) ^ ((j.val : ℤ) - 126) : ℝ) : EReal)
    · rw [if_pos hj, EReal.coe_le_coe_iff]
      refine pow_mono ?_
      rcases h1 with rfl | h1
      · omega
      · have := (zpow_lt_zpow_iff_right₀ (by norm_num : (1 : ℝ) < 2)).1 (lt_of_le_of_lt h1 (EReal.coe_lt_coe_iff.1 hj))
        omega
    · rw [if_neg hj]; exact le_top

theorem cst_eq : ∃ c : ℝ, cst = (c : EReal) ∧ 0 < c ∧ c ≤ 1 / 4 := by
  refine ⟨(2 ^ 23 + 1198373 : ℕ) * (2 : ℝ) ^ ((118 : ℤ) - 127 - 23), ?_, by positivity, ?_⟩
  · unfold cst
    simp [Ideal.ofBits, Ideal.ieee, -EReal.coe_mul]
  · norm_num

theorem scale_cases (a : ℝ) (h0 : 0 ≤ a) (h1 : a < (2 : ℝ) ^ (128 : ℤ)) :
    ((a : EReal) = 0 ∧ (a : EReal) * cst = 0) ∨ ((a : EReal) ≠ 0 ∧ ∃ t : ℝ, (a : EReal) * cst = (t : EReal) ∧ 0 < t ∧ t < (2 : ℝ) ^ (126 : ℤ)) := by
  obtain ⟨c, hc, c0, c1⟩ := cst_eq
  rcases h0.eq_or_lt with h | h
  · left
    rw [← h]
    exact ⟨rfl, by rw [EReal.coe_zero, zero_mul]⟩
  · right
    refine ⟨by rw [Ne, EReal.coe_eq_zero]; exact h.ne', a * c, by rw [hc, EReal.coe_mul], mul_pos h c0, ?_⟩
    have e : (2 : ℝ) ^ (128 : ℤ) = (2 : ℝ) ^ (126 : ℤ) * 4 := by norm_num
    nlinarith

/-- The scale found by the search is the least power of two above. -/
theorem scaleS_eq (a : ℝ) (h0 : 0 ≤ a) (h1 : a < (2 : ℝ) ^ (128 : ℤ)) : scaleS ((a : EReal) * cst) = scaleR (a : EReal) := by
  unfold scaleS scaleR
  rcases scale_cases a h0 h1 with ⟨e, e'⟩ | ⟨e, t, et, t0, t1⟩
  · rw [e', if_pos e, show IntOp.addi (expS 0) 127#32 = BitVec.ofNat 32 127 by unfold expS; rw [if_pos rfl]; rfl, ofBits_field 127 (by norm_num) (by norm_num)]
    norm_num
  · rw [if_neg e, et]
    obtain ⟨k, hk, he, k1, k2⟩ := expS_spec t t0 t1
    rw [he, (word_scale ⟨k, by omega⟩).1, ofBits_field (k + 1) (by omega) (by omega), inf_powers t k hk k1 k2]
    refine congrArg _ (congrArg _ ?_)
    push_cast
    ring

/-- The word built for the inverse is the inverse of the scale. -/
theorem invS_eq (a : ℝ) (h0 : 0 ≤ a) (h1 : a < (2 : ℝ) ^ (128 : ℤ)) : invS ((a : EReal) * cst) = Ideal.div 1 (scaleR (a : EReal)) := by
  unfold invS scaleR
  rcases scale_cases a h0 h1 with ⟨e, e'⟩ | ⟨e, t, et, t0, t1⟩
  · rw [e', if_pos e, show IntOp.subi 127#32 (expS 0) = BitVec.ofNat 32 127 by unfold expS; rw [if_pos rfl]; rfl, ofBits_field 127 (by norm_num) (by norm_num),
      ← EReal.coe_one, Ideal.div_coe (by norm_num)]
    norm_num
  · rw [if_neg e, et]
    obtain ⟨k, hk, he, k1, k2⟩ := expS_spec t t0 t1
    rw [he, (word_scale ⟨k, by omega⟩).2.1, ofBits_field (253 - k) (by omega) (by omega), inf_powers t k hk k1 k2, Ideal.div_coe (by positivity), one_mul]
    refine congrArg _ ?_
    rw [one_div, ← zpow_neg]
    refine congrArg _ ?_
    rw [Nat.cast_sub (by omega)]
    push_cast
    ring

end Cert.Dora

end
-- ==== Proof.Spec.lean ====
/- The problem's mathematics on numbers: a row of merged weights, the row rescaled to its magnitude, the largest entry of a
   block, its scale and its codes; and the same from three times the rows, as the kernel carries them. -/
module

public import proofs.«01_k».proof.Proof.Algebra
public import proofs.«01_k».proof.Proof.Scale

@[expose] public section

set_option exponentiation.threshold 1024

noncomputable section

namespace Cert.Dora

open Idealize.ShloMosaic

/-- A row's columns: the number of the block, and the place in it. -/
abbrev Col := Fin 32 × Fin 128

/-- An entry of a row rescaled to the norm g. -/
def scaled (m : Col → EReal) (g : EReal) (i : Col) : EReal := m i * Ideal.div g (nrm m)

/-- The largest absolute value of block q of 128 rescaled rows. -/
def blkMax (mm : Fin 128 → Col → EReal) (g : Fin 128 → EReal) (q : Fin 32) : EReal :=
  Finset.univ.sup fun i : Fin 128 × Fin 128 => ab (scaled (mm i.1) (g i.1) (q, i.2))

/-- A code before it is rounded: the entry over the scale, clipped. -/
def clip (x : EReal) : EReal := min (Ideal.ofBits .f32 0x43E00000#32) (max (Ideal.ofBits .f32 0xC3E00000#32) x)

/-- The largest 32-bit number. -/
def fmax : EReal := Ideal.ofBits .f32 0x7F7FFFFF#32

theorem fmax_eq : ∃ r : ℝ, fmax = (r : EReal) ∧ r < (2 : ℝ) ^ (128 : ℤ) := by
  refine ⟨(2 ^ 23 + 8388607 : ℕ) * (2 : ℝ) ^ ((254 : ℤ) - 127 - 23), ?_, ?_⟩
  · unfold fmax
    simp [Ideal.ofBits, Ideal.ieee, -EReal.coe_mul]
  · norm_num

/-- Where every magnitude is finite, the largest entry is a number between zero and the largest 32-bit number. -/
theorem blkMax_real (mm : Fin 128 → Col → EReal) (g : Fin 128 → EReal) (q : Fin 32) (hg : ∀ r, ab (g r) ≤ fmax) :
    ∃ a : ℝ, blkMax mm g q = (a : EReal) ∧ 0 ≤ a ∧ a < (2 : ℝ) ^ (128 : ℤ) := by
  obtain ⟨r, hr, h⟩ := fmax_eq
  have h1 : blkMax mm g q ≤ (r : EReal) := hr ▸ Finset.sup_le fun i _ => (ab_mul_div_nrm_le _ _ _).trans (hg i.1)
  have h0 : 0 ≤ blkMax mm g q := (ab_nonneg _).trans (Finset.le_sup (f := fun i : Fin 128 × Fin 128 => ab (scaled (mm i.1) (g i.1) (q, i.2))) (Finset.mem_univ (0, 0)))
  generalize blkMax mm g q = x at *
  induction x with
  | bot => simp at h0
  | top => simp at h1
  | coe a => exact ⟨a, rfl, EReal.coe_nonneg.1 h0, lt_of_le_of_lt (EReal.coe_le_coe_iff.1 h1) h⟩

/-! ## The whole problem -/

section

variable (W : Fin 6 → Fin 1536 → Fin 4096 → EReal) (S : Fin 6 → Fin 12 → Fin 32 → EReal) (A : Fin 6 → Fin 96 → Fin 4096 → EReal)
  (B : Fin 6 → Fin 1536 → Fin 96 → EReal) (G : Fin 6 → Fin 1536 → EReal)

/-- The column of the whole matrix that a place of a block is. -/
def colOf (i : Col) : Fin 4096 := ⟨128 * i.1.val + i.2.val, by have := i.1.isLt; have := i.2.isLt; omega⟩

/-- The block and the place in it that a column is. -/
def colIx (z : Fin 4096) : Col := (⟨z.val / 128, by omega⟩, ⟨z.val % 128, by omega⟩)

theorem colOf_colIx (z : Fin 4096) : colOf (colIx z) = z := Fin.ext (show 128 * (z.val / 128) + z.val % 128 = z.val by omega)

/-- The row that row r of the P-th block of rows is, and the block that a row lies in. -/
def rowOf (P : Fin 12) (r : Fin 128) : Fin 1536 := ⟨128 * P.val + r.val, by omega⟩
def blkOf (o : Fin 1536) : Fin 12 := ⟨o.val / 128, by omega⟩

/-- A row of merged weights: code times scale, plus a third of the product of the two small matrices. -/
def merged (b : Fin 6) (o : Fin 1536) (i : Col) : EReal :=
  W b o (colOf i) * S b (blkOf o) i.1 + ((1 / 3 : ℝ) : EReal) * ∑ k : Fin 96, B b o k * A b k (colOf i)

/-- The largest absolute value of a block of the rescaled rows. -/
def blockMax (b : Fin 6) (P : Fin 12) (q : Fin 32) : EReal :=
  blkMax (fun r => merged W S A B b (rowOf P r)) (fun r => G b (rowOf P r)) q

/-- A block's scale. -/
def scaleSpec (b : Fin 6) (P : Fin 12) (q : Fin 32) : EReal := scaleR (blockMax W S A B G b P q)

/-- An entry's code. -/
def codeSpec (b : Fin 6) (o : Fin 1536) (i : Col) : EReal :=
  clip (scaled (merged W S A B b o) (G b o) i * Ideal.div 1 (scaleSpec W S A B G b (blkOf o) i.1))

end

/-! ## Sums and largest entries over the places of a block -/

/-- The larger of all of a family of families is that over the pairs. -/
theorem sup_sup {ι κ : Type} [Fintype ι] [Fintype κ] (f : ι → κ → EReal) :
    (Finset.univ.sup fun i => Finset.univ.sup (f i)) = Finset.univ.sup fun p : ι × κ => f p.1 p.2 :=
  le_antisymm (Finset.sup_le fun i _ => Finset.sup_le fun k _ => Finset.le_sup (f := fun p : ι × κ => f p.1 p.2) (Finset.mem_univ (i, k)))
    (Finset.sup_le fun p _ => (Finset.le_sup (f := f p.1) (Finset.mem_univ p.2)).trans (Finset.le_sup (f := fun i => Finset.univ.sup (f i)) (Finset.mem_univ p.1)))

/-- The hundred and twenty-eight places as eight of each of sixteen groups. -/
def places : Fin 8 × Fin 16 ≃ Fin 128 where
  toFun x := ⟨x.2.val * 8 + x.1.val, by have := x.1.isLt; have := x.2.isLt; omega⟩
  invFun j := (⟨j.val % 8, by omega⟩, ⟨j.val / 8, by omega⟩)
  left_inv x := by
    have := x.1.isLt
    refine Prod.ext (Fin.ext ?_) (Fin.ext ?_)
    · show (x.2.val * 8 + x.1.val) % 8 = x.1.val; omega
    · show (x.2.val * 8 + x.1.val) / 8 = x.2.val; omega
  right_inv j := Fin.ext (by show j.val / 8 * 8 + j.val % 8 = j.val; omega)

theorem sum_places (f : Fin 128 → EReal) : ∑ s : Fin 8, ∑ g : Fin 16, f (places (s, g)) = ∑ j, f j := by
  rw [← Fintype.sum_prod_type (f := fun x : Fin 8 × Fin 16 => f (places x)), Equiv.sum_comp places f]

theorem sup_places (f : Fin 128 → EReal) : (Finset.univ.sup fun s : Fin 8 => Finset.univ.sup fun g : Fin 16 => f (places (s, g))) = Finset.univ.sup f := by
  rw [sup_sup fun (s : Fin 8) (g : Fin 16) => f (places (s, g))]
  refine le_antisymm (Finset.sup_le fun p _ => Finset.le_sup (f := f) (Finset.mem_univ _)) (Finset.sup_le fun j _ => ?_)
  have h := Finset.le_sup (f := fun p : Fin 8 × Fin 16 => f (places (p.1, p.2))) (Finset.mem_univ (places.symm j))
  refine le_trans (le_of_eq ?_) h
  exact congrArg f (places.apply_symm_apply j).symm

/-- The largest of eight. -/
theorem sup_eight (f : Fin 8 → EReal) : max (max (max (max (max (max (max (f 0) (f 1)) (f 2)) (f 3)) (f 4)) (f 5)) (f 6)) (f 7) = Finset.univ.sup f := by
  refine le_antisymm ?_ (Finset.sup_le fun i _ => ?_)
  · simp only [max_le_iff, and_assoc]
    exact ⟨Finset.le_sup (Finset.mem_univ _), Finset.le_sup (Finset.mem_univ _), Finset.le_sup (Finset.mem_univ _), Finset.le_sup (Finset.mem_univ _),
      Finset.le_sup (Finset.mem_univ _), Finset.le_sup (Finset.mem_univ _), Finset.le_sup (Finset.mem_univ _), Finset.le_sup (Finset.mem_univ _)⟩
  · fin_cases i <;> simp

/-! ## From three times the rows -/

/-- The largest entry from three times the rows, each column's largest entry times its factor. -/
theorem blkMax_of_three (mm : Fin 128 → Col → EReal) (g : Fin 128 → EReal) (q : Fin 32) :
    (Finset.univ.sup fun r : Fin 128 => (Finset.univ.sup fun j : Fin 128 => ab (((3 : ℝ) : EReal) * mm r (q, j))) * ab (Ideal.div (g r) (nrm fun i => ((3 : ℝ) : EReal) * mm r i)))
      = blkMax mm g q := by
  unfold blkMax scaled
  rw [← sup_sup fun (r j : Fin 128) => ab (mm r (q, j) * Ideal.div (g r) (nrm (mm r)))]
  refine Finset.sup_congr rfl fun r _ => ?_
  rw [sup_mul _ _ (ab_nonneg _)]
  refine Finset.sup_congr rfl fun j _ => ?_
  rw [← ab_mul, three_mul_div_nrm]

/-- A code from three times the row: the factors in the order that the kernel multiplies them. -/
theorem code_of_three (m : Col → EReal) (g v : EReal) (i : Col) :
    (((3 : ℝ) : EReal) * m i) * (v * Ideal.div g (nrm fun i => ((3 : ℝ) : EReal) * m i)) = scaled m g i * v := by
  unfold scaled
  rw [mul_comm v, ← mul_assoc, three_mul_div_nrm]

/-- Three times a merged entry. -/
theorem three_merged (x d : EReal) : ((3 : ℝ) : EReal) * (x + ((1 / 3 : ℝ) : EReal) * d) = ((3 : ℝ) : EReal) * x + d := by
  rw [EReal.left_distrib_of_nonneg_of_ne_top (EReal.coe_nonneg.2 (by norm_num)) (EReal.coe_ne_top 3), ← mul_assoc, ← EReal.coe_mul]
  norm_num

end Cert.Dora

end
-- ==== Proof.KVal.lean ====
/- What a grid point computes over the extended reals: three times the merged rows, each block's largest rescaled entry,
   its scale, and its codes. -/
module

public import proofs.«01_k».proof.Proof.Point
public import proofs.«01_k».proof.Proof.Spec

@[expose] public section

set_option maxRecDepth 16384

noncomputable section

namespace Cert.KernelIdeal.Gen

open Idealize.ShloMosaic Idealize.ShloMosaic.TcCoe Idealize.ShloMosaic.Tactic Cert.Dora

/-! ## The scale of a block -/

theorem stepE_at (t : FVec Ideal S32x128 .f32) (b : BitVec 32) (e : IVec S32x128 32) (y) : stepE t b e y = stepS (t y) b (e y) := by
  pointwise [stepE, stepS]

theorem expB_at (t : FVec Ideal S32x128 .f32) (y) : expB t y = expS (t y) := by
  pointwise [expB]
  unfold expS
  simp only [stepE_at]
  rfl

theorem scaleRow_at (t : FVec Ideal S32x128 .f32) (q : Fin 32) : scaleRow t (ix3 0 0 q) = scaleS (t (ix2 q 0)) := by
  pointwise [scaleRow, scaleB]
  rw [expB_at]
  rfl

/-- Half p of a point's 256 rows begins at row 128 p. -/
def half (p : Fin 2) (r : Fin 128) : Fin 256 := ⟨128 * p.val + r.val, by omega⟩

/-- The factor of a column of a block, by its half. -/
theorem facB_at (r : FVec Ideal S1x256 .f32) (T : Fin 2 → FVec Ideal S32x128 .f32) (q : Fin 32) (p : Fin 2) (x : Fin 128) :
    facB r (T 0) (T 1) (ix2 q (half p x)) = invS (T p (ix2 q x)) * r (ix2 0 (half p x)) := by
  pointwise [facB, invB, ratP]
  match p with
  | 0 =>
    have h : (half 0 x).val < 128 := by show 128 * 0 + x.val < 128; omega
    refine (dif_pos h).trans ?_
    refine (congrArg (fun e => Ideal.ofBits .f32 (IntOp.shli .vector (IntOp.subi 127#32 e) 23#32) * r (ix2 0 (half 0 x))) (expB_at (T 0) _)).trans ?_
    exact congrArg (fun u => Ideal.ofBits .f32 (IntOp.shli .vector (IntOp.subi 127#32 (expS (T 0 (ix2 q u)))) 23#32) * r (ix2 0 (half 0 x)))
      (Fin.ext (by show 128 * 0 + x.val = x.val; omega))
  | 1 =>
    have h : ¬ (half 1 x).val < 128 := by show ¬ 128 * 1 + x.val < 128; omega
    have hx : (half 1 x).val = 128 + x.val := rfl
    refine (dif_neg h).trans ?_
    refine (congrArg (fun e => Ideal.ofBits .f32 (IntOp.shli .vector (IntOp.subi 127#32 e) 23#32) * r (ix2 0 _)) (expB_at (T 1) _)).trans ?_
    exact congrArg₂ (fun u v => Ideal.ofBits .f32 (IntOp.shli .vector (IntOp.subi 127#32 (expS (T 1 (ix2 q u)))) 23#32) * r (ix2 0 v))
      (Fin.ext (by show (half 1 x).val - 128 = x.val; omega)) (Fin.ext (by show 128 + ((half 1 x).val - 128) = (half 1 x).val; omega))

/-! ## The norm of a row -/

theorem foldl_at (f : Fin 32 → FVec Ideal S8x256 .f32) (y) (l : List (Fin 32)) : ∀ z : FVec Ideal S8x256 .f32,
    (l.foldl (fun a q => addf a (f q)) z) y = z y + (l.map fun q => f q y).sum := by
  induction l with
  | nil => intro z; simp
  | cons q l ih =>
    intro z
    rw [List.foldl_cons, ih, List.map_cons, List.sum_cons, ← add_assoc]
    rfl

/-- The accumulator after the loop: at each of its eight rows the sum over the blocks. -/
theorem foldl_qs (f : Fin 32 → FVec Ideal S8x256 .f32) (y) : (qs.foldl (fun a q => addf a (f q)) (broadcast S8x256 (0 : Ideal .f32))) y = ∑ q, f q y := by
  rw [foldl_at, show qs = List.finRange 32 by decide, ← Fin.sum_univ_def]
  exact zero_add _

theorem sqB_at (M : FVec Ideal S128x256 .f32) (s : Fin 8) (y : Fin 256) :
    sqB M (ix2 s y) = ∑ g : Fin 16, M (ix2 (places (s, g)) y) * M (ix2 (places (s, g)) y) := by
  pointwise [sqB]
  rfl

theorem normB_at (M : Fin 32 → FVec Ideal S128x256 .f32) (y : Fin 256) : normB M (ix2 0 y) = nrm fun i : Col => M i.1 (ix2 i.2 y) := by
  pointwise [normB]
  have e : (∑ x : Fin 8, (qs.foldl (fun a q => addf a (sqB (M q))) (broadcast S8x256 (0 : Ideal .f32))) (ix2 x y))
      = ∑ i : Col, M i.1 (ix2 i.2 y) * M i.1 (ix2 i.2 y) := by
    simp only [foldl_qs, sqB_at]
    rw [Finset.sum_comm, Fintype.sum_prod_type]
    refine Finset.sum_congr rfl fun q _ => ?_
    exact sum_places fun j => M q (ix2 j y) * M q (ix2 j y)
  unfold nrm
  rw [← e]

theorem ratB_at (mag : Vec Ideal S1x1x256 .f32) (M : Fin 32 → FVec Ideal S128x256 .f32) (y : Fin 256) :
    ratB mag M (ix2 0 y) = Ideal.div (mag (ix3 0 0 y)) (nrm fun i : Col => M i.1 (ix2 i.2 y)) := by
  pointwise [ratB]
  rw [normB_at]

/-! ## The largest entry of a block -/

theorem negInf : Ideal.ofBits .f32 0xFF800000#32 = ⊥ := by simp [Ideal.ofBits, Ideal.ieee]

theorem mxB_at (M : FVec Ideal S128x256 .f32) (s : Fin 8) (y : Fin 256) :
    mxB M (ix2 s y) = Finset.univ.sup fun g : Fin 16 => ab (M (ix2 (places (s, g)) y)) := by
  pointwise [mxB]
  rw [negInf]
  rfl

theorem gB_at (M : Fin 32 → FVec Ideal S128x256 .f32) (p : Fin 2) (s : Fin 8) (q : Fin 32) (x : Fin 128) :
    gB M ((rectS p s).idx (ix3 0 q x)) = Finset.univ.sup fun g : Fin 16 => ab (M q (ix2 (places (s, g)) (half p x))) := by
  rw [idx_rectS, ← mxB_at]
  have e : (8 * q.val + s.val) / 8 = q.val := by omega
  have e' : (8 * q.val + s.val) % 8 = s.val := by omega
  unfold gB
  refine congrArg₂ (fun a b => mxB (M a) b) (Fin.ext e) ?_
  exact congrArg₂ ix2 (Fin.ext e') rfl

theorem rmB_at (M : Fin 32 → FVec Ideal S128x256 .f32) (p : Fin 2) (q : Fin 32) (x : Fin 128) :
    rmB (fun s x => gB M ((rectS p s).idx x)) (ix2 q x) = Finset.univ.sup fun j : Fin 128 => ab (M q (ix2 j (half p x))) := by
  rw [← sup_places fun j => ab (M q (ix2 j (half p x))), ← sup_eight fun s => Finset.univ.sup fun g : Fin 16 => ab (M q (ix2 (places (s, g)) (half p x)))]
  simp only [← gB_at]
  pointwise [rmB]

/-- A block's largest rescaled entry over the largest code, where the products are three times the rows. -/
theorem ptT_at (mag : Vec Ideal S1x1x256 .f32) (M : Fin 32 → FVec Ideal S128x256 .f32) (mm : Fin 256 → Col → EReal)
    (hM : ∀ q j y, M q (ix2 j y) = ((3 : ℝ) : EReal) * mm y (q, j)) (p : Fin 2) (q : Fin 32) (x : Fin 128) :
    ptT mag M p (ix2 q x) = blkMax (fun r => mm (half p r)) (fun r => mag (ix3 0 0 (half p r))) q * cst := by
  rw [← blkMax_of_three]
  unfold ptT
  generalize hrm : rmB (fun s x => gB M ((rectS p s).idx x)) = rm
  have h1 : ∀ x, rm (ix2 q x) = Finset.univ.sup fun j : Fin 128 => ab (((3 : ℝ) : EReal) * mm (half p x) (q, j)) := fun x => by
    rw [← hrm, rmB_at]
    simp only [hM]
  have h2 : ∀ x, ratP (ratB mag M) p (ix2 0 x) = Ideal.div (mag (ix3 0 0 (half p x))) (nrm fun i => ((3 : ℝ) : EReal) * mm (half p x) i) := fun x => by
    pointwise [ratP]
    have h := ratB_at mag M (half p x)
    simp only [hM] at h
    exact h
  generalize ratP (ratB mag M) p = r at h2
  pointwise [tB]
  simp only [h1, h2, negInf]
  rfl

/-! ## The codes and the scales of a point -/

/-- A point's scales, where the products are three times the rows and the magnitudes are finite. -/
theorem ptS_at (mag : Vec Ideal S1x1x256 .f32) (M : Fin 32 → FVec Ideal S128x256 .f32) (mm : Fin 256 → Col → EReal)
    (hM : ∀ q j y, M q (ix2 j y) = ((3 : ℝ) : EReal) * mm y (q, j)) (hg : ∀ y, ab (mag (ix3 0 0 y)) ≤ fmax) (p : Fin 2) (q : Fin 32) :
    scaleRow (ptT mag M p) (ix3 0 0 q) = scaleR (blkMax (fun r => mm (half p r)) (fun r => mag (ix3 0 0 (half p r))) q) := by
  rw [scaleRow_at, ptT_at mag M mm hM]
  obtain ⟨a, ha, h0, h1⟩ := blkMax_real (fun r => mm (half p r)) (fun r => mag (ix3 0 0 (half p r))) q fun r => hg _
  rw [ha, scaleS_eq a h0 h1]

/-- A point's codes, under the same. -/
theorem ptO_at (mag : Vec Ideal S1x1x256 .f32) (M : Fin 32 → FVec Ideal S128x256 .f32) (mm : Fin 256 → Col → EReal)
    (hM : ∀ q j y, M q (ix2 j y) = ((3 : ℝ) : EReal) * mm y (q, j)) (hg : ∀ y, ab (mag (ix3 0 0 y)) ≤ fmax) (p : Fin 2) (r : Fin 128) (i : Col) :
    ptO mag M (ix3 0 (half p r) (colOf i))
      = clip (scaled (mm (half p r)) (mag (ix3 0 0 (half p r))) i * Ideal.div 1 (scaleR (blkMax (fun r => mm (half p r)) (fun r => mag (ix3 0 0 (half p r))) i.1))) := by
  obtain ⟨q, j⟩ := i
  have e1 : (128 * q.val + j.val) / 128 = q.val := by omega
  have e2 : (128 * q.val + j.val) % 128 = j.val := by omega
  have h1 : ptO mag M (ix3 0 (half p r) (colOf (q, j)))
      = codeB (fun x => gM M ((rectM q).emb x)) (facB (ratB mag M) (ptT mag M 0) (ptT mag M 1)) q (ix2 j (half p r)) := by
    unfold ptO gO
    have a1 : ∀ h, (⟨(colOf (q, j)).val / 128, h⟩ : Fin 32) = q := fun h => Fin.ext e1
    have a2 : ∀ h, (⟨(colOf (q, j)).val % 128, h⟩ : Fin 128) = j := fun h => Fin.ext e2
    exact congrArg₂ (fun a b => codeB (fun x => gM M ((rectM a).emb x)) (facB (ratB mag M) (ptT mag M 0) (ptT mag M 1)) a (ix2 b (half p r))) (Fin.ext e1) (Fin.ext e2)
  have h2 := facB_at (ratB mag M) (ptT mag M) q p r
  rw [h1]
  generalize facB (ratB mag M) (ptT mag M 0) (ptT mag M 1) = f at h2
  have h3 : gM M ((rectM q).emb (ix3 0 j (half p r))) = ((3 : ℝ) : EReal) * mm (half p r) (q, j) := by
    rw [emb_rectM]
    exact hM q j (half p r)
  have h4 := ratB_at mag M (half p r)
  simp only [hM] at h4
  obtain ⟨a, ha, h0, hlt⟩ := blkMax_real (fun r => mm (half p r)) (fun r => mag (ix3 0 0 (half p r))) q fun r => hg _
  pointwise [codeB]
  rw [h3, h2, h4, ptT_at mag M mm hM, code_of_three, ha, invS_eq a h0 hlt]
  rfl

/-! ## The products -/

theorem pay73_at (j x : Fin 128) : k0_pay73 (F := Ideal) k0_pay2 (ix3 0 j x) = if j = x then ((3 : ℝ) : EReal) else 0 := by
  pointwise [k0_pay73, k0_pay2]
  have e : (BitVec.ofNat 32 j.val = BitVec.ofNat 32 x.val) ↔ j = x := by
    constructor
    · intro h
      have := congrArg BitVec.toNat h
      simp only [BitVec.toNat_ofNat] at this
      exact Fin.ext (by omega)
    · rintro rfl; rfl
  have e3 : Ideal.ofBits .f32 0x40400000#32 = ((3 : ℝ) : EReal) := by
    simp [Ideal.ofBits, Ideal.ieee, -EReal.coe_mul]
    norm_num
  rw [e3]
  by_cases h : j = x
  · rw [if_pos h, h]; simp [Scalar.select, IntOp.cmpi]
  · rw [if_neg h]
    unfold Scalar.select IntOp.cmpi
    rw [show (BitVec.ofNat 32 j.val == BitVec.ofNat 32 x.val) = false from beq_false_of_ne (mt e.1 h)]
    rfl

theorem pay74_at (a : Vec Ideal S1x96x128 .bf16) (j x : Fin 128) : k0_pay74 (F := Ideal) k0_pay3 a (ix3 0 j x) = if h : x.val < 96 then a (ix3 0 ⟨x.val, h⟩ j) else 0 := by
  pointwise [k0_pay74, k0_pay3]

theorem pay75_at (b : Vec Ideal S1x256x96 .bf16) (x : Fin 128) (y : Fin 256) : k0_pay75 (F := Ideal) b (ix2 x y) = if h : x.val < 96 then b (ix3 0 y ⟨x.val, h⟩) else 0 := by
  pointwise [k0_pay75]

/-- A sum over the padded places is the sum over the places. -/
theorem sum_padded (f g : Fin 96 → EReal) :
    (∑ x : Fin 128, (if h : x.val < 96 then f ⟨x.val, h⟩ else 0) * (if h : x.val < 96 then g ⟨x.val, h⟩ else 0)) = ∑ k, f k * g k := by
  refine (Fin.sum_univ_add (a := 96) (b := 32) (fun x : Fin (96 + 32) => (if h : x.val < 96 then f ⟨x.val, h⟩ else 0) * (if h : x.val < 96 then g ⟨x.val, h⟩ else 0))).trans ?_
  have h2 : ∀ x : Fin 32, ¬ (Fin.natAdd 96 x).val < 96 := fun x => by simp
  have h1 : ∀ x : Fin 96, (Fin.castAdd 32 x).val < 96 := fun x => x.isLt
  simp only [dif_pos (h1 _), dif_neg (h2 _), mul_zero, Finset.sum_const_zero, add_zero]
  rfl

/-- A product's entry: the left half against the half's scaled weight block, the right half against the padded B. -/
theorem mB_at (bt : FVec Ideal S128x256 .bf16) (st : Fin 2 → FVec Ideal S32x128 .bf16) (w : Fin 2 → Vec Ideal S1x128x128 .fp8e4m3) (lhs : Vec Ideal S1x128x256 .bf16) (q : Fin 32)
    (j : Fin 128) (p : Fin 2) (r : Fin 128) :
    mB bt (st 0) (st 1) (w 0) (w 1) lhs q (ix2 j (half p r))
      = (∑ x : Fin 128, lhs (ix3 0 j (half 0 x)) * (w p (ix3 0 r x) * st p (ix2 q r))) + ∑ x : Fin 128, lhs (ix3 0 j (half 1 x)) * bt (ix2 x (half p r)) := by
  pointwise [mB, rhsB, wB]
  refine congrArg₂ (· + ·) (Finset.sum_congr rfl fun x _ => ?_) rfl
  refine congrArg₂ (· * ·) (congrArg (fun u => lhs (ix3 0 j u)) (Fin.ext (by show x.val = 128 * 0 + x.val; omega))) ?_
  match p with
  | 0 =>
    have h : (half 0 r).val < 128 := by show 128 * 0 + r.val < 128; omega
    refine (dif_pos h).trans ?_
    exact congrArg (fun u => w 0 (ix3 0 u x) * st 0 (ix2 q u)) (Fin.ext (by show 128 * 0 + r.val = r.val; omega))
  | 1 =>
    have h : ¬ (half 1 r).val < 128 := by show ¬ 128 * 1 + r.val < 128; omega
    have hx : (half 1 r).val = 128 + r.val := rfl
    refine (dif_neg h).trans ?_
    exact congrArg (fun u => w 1 (ix3 0 u x) * st 1 (ix2 q u)) (Fin.ext (by show (half 1 r).val - 128 = r.val; omega))

/-- The carried left operand at coordinates: three times the identity, then the columns of A. -/
theorem gL_left (a : Fin 32 → Vec Ideal S1x96x128 .bf16) (q : Fin 32) (j x : Fin 128) :
    gL a ((rectM q).emb (ix3 0 j (half 0 x))) = if j = x then ((3 : ℝ) : EReal) else 0 := by
  rw [emb_rectM, ← pay73_at]
  have h : (half 0 x).val < 128 := by show 128 * 0 + x.val < 128; omega
  refine (dif_pos h).trans ?_
  exact congrArg (fun u => k0_pay73 (F := Ideal) k0_pay2 (ix3 0 j u)) (Fin.ext (by show 128 * 0 + x.val = x.val; omega))

theorem gL_right (a : Fin 32 → Vec Ideal S1x96x128 .bf16) (q : Fin 32) (j x : Fin 128) :
    gL a ((rectM q).emb (ix3 0 j (half 1 x))) = if h : x.val < 96 then a q (ix3 0 ⟨x.val, h⟩ j) else 0 := by
  rw [emb_rectM, ← pay74_at]
  have h : ¬ (half 1 x).val < 128 := by show ¬ 128 * 1 + x.val < 128; omega
  refine (dif_neg h).trans ?_
  exact congrArg (fun u => k0_pay74 (F := Ideal) k0_pay3 (a q) (ix3 0 j u)) (Fin.ext (by show 128 * 1 + x.val - 128 = x.val; omega))

/-- The products are three times the merged rows of the point's blocks. -/
theorem ptM_at (i : grid0.Coords) (x0 : Vec Ideal S1x256x4096 .fp8e4m3) (x1 : Vec Ideal S1x12x32 .f32) (x2 : Vec Ideal S1x96x4096 .bf16) (x3 : Vec Ideal S1x256x96 .bf16)
    (q : Fin 32) (j : Fin 128) (p : Fin 2) (r : Fin 128) :
    ptM i x0 x1 x2 x3 q (ix2 j (half p r)) = ((3 : ℝ) : EReal) *
      (x0 (ix3 0 (half p r) (colOf (q, j))) * x1 (ix3 0 ⟨2 * (i 1).val + p.val, by have := (i 1).isLt; change (i 1).val < 6 at this; omega⟩ q)
        + ((1 / 3 : ℝ) : EReal) * ∑ k : Fin 96, x3 (ix3 0 (half p r) k) * x2 (ix3 0 k (colOf (q, j)))) := by
  unfold ptM mAll
  rw [three_merged]
  have hA : ∀ k, x2 ((rectA q).emb (ix3 0 k j)) = x2 (ix3 0 k (colOf (q, j))) := fun k => by
    refine congrArg x2 ?_
    funext a
    apply Fin.ext
    match a with
    | ⟨0, _⟩ => rfl
    | ⟨1, _⟩ => show 0 + 1 * k.val = k.val; omega
    | ⟨2, _⟩ => show 128 * q.val + 1 * j.val = 128 * q.val + j.val; omega
  have hB : ∀ k, x3 (rectBB.emb (ix3 0 (half p r) k)) = x3 (ix3 0 (half p r) k) := fun k => by
    refine congrArg x3 ?_
    funext a
    apply Fin.ext
    match a with
    | ⟨0, _⟩ => rfl
    | ⟨1, _⟩ => show 0 + 1 * (half p r).val = (half p r).val; omega
    | ⟨2, _⟩ => show 0 + 1 * k.val = k.val; omega
  have hS : (![k0_pay76 (F := Ideal) (fun x => x1 ((rectC i 0).emb x)), k0_pay77 (F := Ideal) (fun x => x1 ((rectC i 1).emb x))] : Fin 2 → FVec Ideal S32x128 .bf16) p (ix2 q r)
      = x1 (ix3 0 ⟨2 * (i 1).val + p.val, by have := (i 1).isLt; change (i 1).val < 6 at this; omega⟩ q) := by
    match p with
    | 0 => refine Eq.trans ?_ (congrArg x1 (emb_rectC i 0 (ix3 0 0 q))); pointwise [k0_pay76]
    | 1 => refine Eq.trans ?_ (congrArg x1 (emb_rectC i 1 (ix3 0 0 q))); pointwise [k0_pay77]
  refine (mB_at (k0_pay75 fun x => x3 (rectBB.emb x)) ![k0_pay76 fun x => x1 ((rectC i 0).emb x), k0_pay77 fun x => x1 ((rectC i 1).emb x)]
    (fun p x => x0 ((rectW p q).emb x)) (fun x => gL (fun q x => x2 ((rectA q).emb x)) ((rectM q).emb x)) q j p r).trans ?_
  simp only [hS, gL_left, gL_right, pay75_at, hA, hB, emb_rectW, ite_mul, zero_mul, Finset.sum_ite_eq, Finset.mem_univ, if_true]
  refine congrArg₂ (· + ·) rfl ?_
  refine (sum_padded (fun k => x2 (ix3 0 k (colOf (q, j)))) fun k => x3 (ix3 0 (half p r) k)).trans ?_
  exact Finset.sum_congr rfl fun k _ => mul_comm _ _

end Cert.KernelIdeal.Gen

end
-- ==== Proof.KFinal.lean ====
/- The kernel's result arrays after the run: the codes and the scales of the problem's mathematics, where every magnitude is
   finite. -/
module

public import proofs.«01_k».proof.Proof.Run
public import proofs.«01_k».proof.Proof.KVal
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic Cert.Dora
open Idealize.ShloMosaic.Pipeline (Dat)

variable (m : (ℓ : Loc nD τ sig) → Buf (Elt Ideal) ℓ)

/-! ## The blocks of a point, in the arrays -/

/-- Each window's block at a point: the batch t / 6, and the group t mod 6 of two blocks of rows. -/
theorem idx_all : ∀ t : Fin cfg0.N, win0_0.index t = ![t.val / 6, t.val % 6, 0] ∧ win0_1.index t = ![t.val / 6, 0, 0] ∧ win0_2.index t = ![t.val / 6, 0, 0]
    ∧ win0_3.index t = ![t.val / 6, t.val % 6, 0] ∧ win0_4.index t = ![t.val, 0, 0] ∧ win0_5.index t = ![t.val / 6, t.val % 6, 0] ∧ win0_6.index t = ![t.val / 6, 0, 0]
    ∧ t.val < 36 :=
  (by decide +kernel : ∀ t : Fin grid0.N, _)

theorem lt36 (t : Fin cfg0.N) : t.val < 36 := (idx_all t).2.2.2.2.2.2.2

/-- A point's batch, and its p-th block of rows. -/
def bat (t : Fin cfg0.N) : Fin 6 := ⟨t.val / 6, by have := lt36 t; omega⟩
def grp (t : Fin cfg0.N) (p : Fin 2) : Fin 12 := ⟨2 * (t.val % 6) + p.val, by omega⟩

/-- The argument arrays as functions of their coordinates. -/
abbrev kW (c : Dev nD) : Fin 6 → Fin 1536 → Fin 4096 → EReal := fun b o i => (m ((c : Thread nD τ).loc main_arg0) : FVec Ideal S6x1536x4096 .fp8e4m3) (ix3 b o i)
abbrev kS (c : Dev nD) : Fin 6 → Fin 12 → Fin 32 → EReal := fun b P q => (m ((c : Thread nD τ).loc main_arg1) : FVec Ideal S6x12x32 .f32) (ix3 b P q)
abbrev kA (c : Dev nD) : Fin 6 → Fin 96 → Fin 4096 → EReal := fun b k i => (m ((c : Thread nD τ).loc main_arg2) : FVec Ideal S6x96x4096 .bf16) (ix3 b k i)
abbrev kB (c : Dev nD) : Fin 6 → Fin 1536 → Fin 96 → EReal := fun b o k => (m ((c : Thread nD τ).loc main_arg3) : FVec Ideal S6x1536x96 .bf16) (ix3 b o k)
abbrev kG (c : Dev nD) : Fin 6 → Fin 1536 → EReal := fun b o => (m ((c : Thread nD τ).loc main_arg4) : FVec Ideal S6x1536 .f32) (ix2 b o)

theorem blk_0 (c : Dev nD) (t : Fin cfg0.N) (p : Fin 2) (r : Fin 128) (i : Fin 4096) : iblk m c 0 t (ix3 0 (half p r) i) = kW m c (bat t) (rowOf (grp t p) r) i := by
  have h : (half p r).val = 128 * p.val + r.val := rfl
  have h' : (rowOf (grp t p) r).val = 128 * (2 * (t.val % 6) + p.val) + r.val := rfl
  have h'' : (bat t).val = t.val / 6 := rfl
  blk_ext [iblk, V, idx_all t]

theorem blk_1 (c : Dev nD) (t : Fin cfg0.N) (P : Fin 12) (q : Fin 32) : iblk m c 1 t (ix3 0 P q) = kS m c (bat t) P q := by
  have h'' : (bat t).val = t.val / 6 := rfl
  blk_ext [iblk, V, idx_all t]

theorem blk_2 (c : Dev nD) (t : Fin cfg0.N) (k : Fin 96) (i : Fin 4096) : iblk m c 2 t (ix3 0 k i) = kA m c (bat t) k i := by
  have h'' : (bat t).val = t.val / 6 := rfl
  blk_ext [iblk, V, idx_all t]

theorem blk_3 (c : Dev nD) (t : Fin cfg0.N) (p : Fin 2) (r : Fin 128) (k : Fin 96) : iblk m c 3 t (ix3 0 (half p r) k) = kB m c (bat t) (rowOf (grp t p) r) k := by
  have h : (half p r).val = 128 * p.val + r.val := rfl
  have h' : (rowOf (grp t p) r).val = 128 * (2 * (t.val % 6) + p.val) + r.val := rfl
  have h'' : (bat t).val = t.val / 6 := rfl
  blk_ext [iblk, V, idx_all t]

/-- The magnitudes are reshaped before the run. -/
theorem blk_4 (c : Dev nD) (t : Fin cfg0.N) (p : Fin 2) (r : Fin 128) : iblk m c 4 t (ix3 0 0 (half p r)) = kG m c (bat t) (rowOf (grp t p) r) := by
  have h : (half p r).val = 128 * p.val + r.val := rfl
  have h' : (rowOf (grp t p) r).val = 128 * (2 * (t.val % 6) + p.val) + r.val := rfl
  have h'' : (bat t).val = t.val / 6 := rfl
  blk_simp [iblk, idx_all t]
  entry_read
  pointwise []
  blk_ext [idx_all t]

/-! ## What a point leaves -/

/-- Row y of a point's merged weights. -/
def pmm (c : Dev nD) (t : Fin cfg0.N) (y : Fin 256) : Col → EReal :=
  merged (kW m c) (kS m c) (kA m c) (kB m c) (bat t) ⟨256 * (t.val % 6) + y.val, by omega⟩

/-- A row of a half is the row of the half's block. -/
theorem pmm_half (c : Dev nD) (t : Fin cfg0.N) (p : Fin 2) (r : Fin 128) :
    pmm m c t (half p r) = merged (kW m c) (kS m c) (kA m c) (kB m c) (bat t) (rowOf (grp t p) r) :=
  congrArg (merged (kW m c) (kS m c) (kA m c) (kB m c) (bat t)) (Fin.ext (show 256 * (t.val % 6) + (128 * p.val + r.val) = 128 * (2 * (t.val % 6) + p.val) + r.val by omega))

theorem blkOf_rowOf (P : Fin 12) (r : Fin 128) : blkOf (rowOf P r) = P :=
  Fin.ext (show (128 * P.val + r.val) / 128 = P.val by have := r.isLt; omega)

/-- A point's products are three times the merged weights. -/
theorem tM_at (c : Dev nD) (t : Fin cfg0.N) (q : Fin 32) (j : Fin 128) (y : Fin 256) : tM m c t q (ix2 j y) = ((3 : ℝ) : EReal) * pmm m c t y (q, j) := by
  obtain ⟨p, r, rfl⟩ : ∃ p r, y = half p r := ⟨⟨y.val / 128, by omega⟩, ⟨y.val % 128, by omega⟩, Fin.ext (show y.val = 128 * (y.val / 128) + y.val % 128 by omega)⟩
  rw [pmm_half]
  refine (ptM_at _ _ _ _ _ q j p r).trans ?_
  have e : ∀ h, (⟨2 * (grid0.coords t 1).val + p.val, h⟩ : Fin 12) = grp t p := fun h => Fin.ext (by show 2 * (grid0.coords t 1).val + p.val = 2 * (t.val % 6) + p.val; rw [coords_1])
  unfold merged
  rw [e, blkOf_rowOf]
  refine congrArg (((3 : ℝ) : EReal) * ·) (congrArg₂ (· + ·) (congrArg₂ (· * ·) (blk_0 m c t p r _) (blk_1 m c t _ q)) (congrArg (((1 / 3 : ℝ) : EReal) * ·) (Finset.sum_congr rfl fun k _ => congrArg₂ (· * ·) (blk_3 m c t p r k) (blk_2 m c t k _))))

/-- A point's magnitudes. -/
theorem tG_at (c : Dev nD) (t : Fin cfg0.N) (p : Fin 2) (r : Fin 128) : tG m c t (ix3 0 0 (half p r)) = kG m c (bat t) (rowOf (grp t p) r) := by
  refine Eq.trans (congrArg (iblk m c 4 t) ?_) (blk_4 m c t p r)
  funext a
  apply Fin.ext
  match a with
  | ⟨0, _⟩ => rfl
  | ⟨1, _⟩ => rfl
  | ⟨2, _⟩ => show 0 + 1 * (half p r).val = (half p r).val; omega

/-- Every magnitude is finite. -/
def FinMag (c : Dev nD) : Prop := ∀ b o, ab (kG m c b o) ≤ fmax

variable {m}

theorem tG_le {c : Dev nD} (h : FinMag m c) (t : Fin cfg0.N) (y : Fin 256) : ab (tG m c t (ix3 0 0 y)) ≤ fmax := by
  obtain ⟨p, r, rfl⟩ : ∃ p r, y = half p r := ⟨⟨y.val / 128, by omega⟩, ⟨y.val % 128, by omega⟩, Fin.ext (show y.val = 128 * (y.val / 128) + y.val % 128 by omega)⟩
  rw [tG_at]
  exact h _ _

/-- The largest absolute value of a half's block. -/
theorem pmax (c : Dev nD) (t : Fin cfg0.N) (p : Fin 2) (q : Fin 32) :
    blkMax (fun r => pmm m c t (half p r)) (fun r => tG m c t (ix3 0 0 (half p r))) q
      = blockMax (kW m c) (kS m c) (kA m c) (kB m c) (kG m c) (bat t) (grp t p) q := by
  unfold blockMax
  exact congrArg₂ (fun f g => blkMax f g q) (funext fun r => pmm_half m c t p r) (funext fun r => tG_at m c t p r)

/-- A point's rows of scales. -/
theorem tS_at {c : Dev nD} (h : FinMag m c) (t : Fin cfg0.N) (p : Fin 2) (q : Fin 32) :
    tS m c t p (ix3 0 0 q) = scaleSpec (kW m c) (kS m c) (kA m c) (kB m c) (kG m c) (bat t) (grp t p) q :=
  (ptS_at (tG m c t) (tM m c t) (pmm m c t) (tM_at m c t) (tG_le h t) p q).trans (congrArg scaleR (pmax c t p q))

/-- A point's codes. -/
theorem tO_at {c : Dev nD} (h : FinMag m c) (t : Fin cfg0.N) (p : Fin 2) (r : Fin 128) (i : Col) :
    tO m c t (ix3 0 (half p r) (colOf i)) = codeSpec (kW m c) (kS m c) (kA m c) (kB m c) (kG m c) (bat t) (rowOf (grp t p) r) i := by
  refine (ptO_at (tG m c t) (tM m c t) (pmm m c t) (tM_at m c t) (tG_le h t) p r i).trans ?_
  rw [pmax, pmm_half, tG_at]
  unfold codeSpec scaleSpec
  rw [blkOf_rowOf]

/-- The same at any index of the block. -/
theorem tO_idx {c : Dev nD} (h : FinMag m c) (t : Fin cfg0.N) (y : S1x256x4096.Idx) (b : Fin 6) (o : Fin 1536) (i : Fin 4096)
    (hb : b.val = t.val / 6) (ho : o.val = 256 * (t.val % 6) + (y 1).val) (hi : i.val = (y 2).val) :
    tO m c t y = codeSpec (kW m c) (kS m c) (kA m c) (kB m c) (kG m c) b o (colIx i) := by
  have h1 : (y 1).val < 256 := (y 1).isLt
  have e := tO_at h t ⟨(y 1).val / 128, by omega⟩ ⟨(y 1).val % 128, by omega⟩ (colIx i)
  have hy : y = ix3 0 (half ⟨(y 1).val / 128, by omega⟩ ⟨(y 1).val % 128, by omega⟩) (colOf (colIx i)) := by
    funext a
    apply Fin.ext
    match a with
    | ⟨0, _⟩ => have := (y 0).isLt; change (y 0).val < 1 at this; show (y 0).val = 0; omega
    | ⟨1, _⟩ => show (y 1).val = 128 * ((y 1).val / 128) + (y 1).val % 128; omega
    | ⟨2, _⟩ => rw [colOf_colIx]; exact hi.symm
  have hb' : bat t = b := Fin.ext hb.symm
  have ho' : rowOf (grp t ⟨(y 1).val / 128, by omega⟩) ⟨(y 1).val % 128, by omega⟩ = o :=
    Fin.ext (show 128 * (2 * (t.val % 6) + (y 1).val / 128) + (y 1).val % 128 = o.val by omega)
  rw [← hy, hb', ho'] at e
  exact e

/-- The scales of a batch's window after its last point, at any index of the block. -/
theorem tS_idx {c : Dev nD} (h : FinMag m c) (t : Fin cfg0.N) (h5 : t.val % 6 = 5) (X : S1x12x32.Idx → EReal) (hX : Rl m c 6 t X)
    (y : S1x12x32.Idx) (b : Fin 6) (P : Fin 12) (q : Fin 32) (hb : b.val = t.val / 6) (hP : P.val = (y 1).val) (hq : q.val = (y 2).val) :
    X y = scaleSpec (kW m c) (kS m c) (kA m c) (kB m c) (kG m c) b P q := by
  have ht : t.val < 36 := lt36 t
  have hN : cfg0.N = 36 := N_0
  have hd : (⟨6 * (t.val / 6) + P.val / 2, by omega⟩ : Fin cfg0.N).val = 6 * (t.val / 6) + P.val / 2 := rfl
  have e := hX ⟨6 * (t.val / 6) + P.val / 2, by omega⟩ (by rw [hd]; omega) (by rw [hd]; omega) ⟨P.val % 2, by omega⟩ (ix3 0 0 q)
  rw [tS_at h, emb_rectC] at e
  have hy : y = ix3 0 P q := by
    funext a
    apply Fin.ext
    match a with
    | ⟨0, _⟩ => have := (y 0).isLt; change (y 0).val < 1 at this; show (y 0).val = 0; omega
    | ⟨1, _⟩ => exact hP.symm
    | ⟨2, _⟩ => exact hq.symm
  rw [hy]
  refine Eq.trans (congrArg X ?_) (e.trans ?_)
  · exact congrArg (fun u => ix3 0 u q) (Fin.ext (by show P.val = 2 * (grid0.coords _ 1).val + P.val % 2; rw [coords_1]; show P.val = 2 * ((6 * (t.val / 6) + P.val / 2) % 6) + P.val % 2; omega))
  · exact congrArg₂ (fun u v => scaleSpec (kW m c) (kS m c) (kA m c) (kB m c) (kG m c) u v q)
      (Fin.ext (show (6 * (t.val / 6) + P.val / 2) / 6 = b.val by omega)) (Fin.ext (show 2 * ((6 * (t.val / 6) + P.val / 2) % 6) + P.val % 2 = P.val by omega))

/-! ## The arrays after the run -/

variable {r : PUnit × MemSt nD τ sig (Elt Ideal)}

/-- The codes. -/
theorem codes_final (hr : Pipeline.RDat.FramePost (cfgs 0) (rdat m) (V m) r) {c : Dev nD} (h : FinMag m c) :
    r.2.mem ((c : Thread nD τ).loc main_v1_0) = fun y : S6x1536x4096.Idx => codeSpec (kW m c) (kS m c) (kA m c) (kB m c) (kG m c) (y 0) (y 1) (colIx (y 2)) := by
  obtain ⟨after, hL, hA⟩ := hr.exists_exact c
  refine (hA 5).trans (((rdat m c).withAfter after).arrAt_eq_of_covers 5 _ (by decide +kernel) fun t hf y => ?_)
  have e : after 5 t = tO m c t := (dats m 0 c).toRRel_leaves (fgt := named0) (Rl := Rl m c) (w := 5) rfl (hL 5 t hf)
  blk_simp
  refine (congrFun e y).trans (tO_idx h t y _ _ _ ?_ ?_ ?_)
  · blk_simp [idx_all t]
  · blk_simp [idx_all t]
    omega
  · blk_simp [idx_all t]

/-- The scales. -/
theorem scales_final (hr : Pipeline.RDat.FramePost (cfgs 0) (rdat m) (V m) r) {c : Dev nD} (h : FinMag m c) :
    r.2.mem ((c : Thread nD τ).loc main_v1_1) = fun y : S6x12x32.Idx => scaleSpec (kW m c) (kS m c) (kA m c) (kB m c) (kG m c) (y 0) (y 1) (y 2) := by
  obtain ⟨after, hL, hA⟩ := hr.exists_exact c
  refine (hA 6).trans (((rdat m c).withAfter after).arrAt_eq_of_covers 6 _ (by decide +kernel) fun t hf y => ?_)
  have e : Rl m c 6 t (after 6 t) := (dats m 0 c).toRRel_leaves (fgt := named0) (Rl := Rl m c) (w := 6) rfl (hL 6 t hf)
  have h5 : t.val % 6 = 5 := (flush0_6 t).1 hf
  blk_simp
  refine tS_idx h t h5 _ e y _ _ _ ?_ ?_ ?_
  · blk_simp [idx_all t]
  · blk_simp [idx_all t]
  · blk_simp [idx_all t]

end Cert.KernelIdeal.Gen

end
-- ==== Proof.RVal.lean ====
/- What the reference computes over the extended reals: the codes and the scales of the problem's mathematics. -/
module

public import proofs.«01_k».proof.Proof.Gen.ReferenceIdeal.Frame
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Cert.Dora

/-! ## The reductions over two axes -/

/-- The entries of a row: all its blocks, and all the places of each. -/
theorem fiber_row (b : Fin 6) (P : Fin 12) (r : Fin 128) (i : S6x12x128x32x128.Idx) :
    reduces_S6x12x128x32x128_S6x12x128.drop i = ix3 b P r ↔ ∃ k : Col, ix5 b P r k.1 k.2 = i := by
  constructor
  · intro e
    refine ⟨(i 3, i 4), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext b
    apply Fin.ext
    match b with
    | ⟨0, _⟩ => rfl
    | ⟨1, _⟩ => rfl
    | ⟨2, _⟩ => rfl

/-- The entries of a block: all its rows, and all its places. -/
theorem fiber_blk (b : Fin 6) (P : Fin 12) (q : Fin 32) (i : S6x12x128x32x128.Idx) :
    reduces_S6x12x128x32x128_S6x12x32.drop i = ix3 b P q ↔ ∃ k : Fin 128 × Fin 128, ix5 b P k.1 q k.2 = i := by
  constructor
  · intro e
    refine ⟨(i 2, i 4), ?_⟩
    funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
  · rintro ⟨k, rfl⟩
    funext b
    apply Fin.ext
    match b with
    | ⟨0, _⟩ => rfl
    | ⟨1, _⟩ => rfl
    | ⟨2, _⟩ => rfl

theorem sum_row (v : S6x12x128x32x128.Idx → EReal) (b : Fin 6) (P : Fin 12) (r : Fin 128) :
    Ideal.reduceAdd reduces_S6x12x128x32x128_S6x12x128 v (ix3 b P r) = ∑ k : Col, v (ix5 b P r k.1 k.2) :=
  Finset.sum_filter_eq_sum_of_fiber _ (fun k : Col => ix5 b P r k.1 k.2) (fun _ _ e => Prod.ext (congrFun e 3) (congrFun e 4)) (fiber_row b P r) v

theorem max_blk (v : S6x12x128x32x128.Idx → EReal) (b : Fin 6) (P : Fin 12) (q : Fin 32) (z : EReal) :
    (Finset.univ.filter fun i => reduces_S6x12x128x32x128_S6x12x32.drop i = ix3 b P q).fold max z v
      = Finset.univ.fold max z fun k : Fin 128 × Fin 128 => v (ix5 b P k.1 q k.2) :=
  Finset.fold_filter_eq_fold_of_fiber max _ (fun k : Fin 128 × Fin 128 => ix5 b P k.1 q k.2) (fun _ _ e => Prod.ext (congrFun e 2) (congrFun e 4)) (fiber_blk b P q) z v

/-! ## The merged weights -/

variable (v0 : Vec Ideal S6x1536x4096 .fp8e4m3) (v1 : Vec Ideal S6x12x32 .f32) (v2 : Vec Ideal S6x96x4096 .bf16) (v3 : Vec Ideal S6x1536x96 .bf16) (v4 : Vec Ideal S6x1536 .f32)

/-- The merged weights, in blocks. -/
def mgR : FVec Ideal S6x12x128x32x128 .f32 :=
  addf (mulf (shapeCast S6x12x128x32x128 (extf .f32 v0 bitsLt_fp8e4m3_f32) shapeCasts_S6x1536x4096_S6x12x128x32x128)
      (broadcastTo S6x12x128x32x128 (shapeCast S6x12x1x32x1 v1 shapeCasts_S6x12x32_S6x12x1x32x1) broadcasts_S6x12x1x32x1_S6x12x128x32x128))
    (mulf (broadcast S6x12x128x32x128 (Named.named κ "third" 0x3EAAAAAB#32))
      (shapeCast S6x12x128x32x128 (matmul (φ₁ := .bf16) (φ₂ := .bf16) dot_S6x1536x96_S6x96x4096_S6x1536x4096_2_1_1_2_0_0 none v3 v2 (constant S6x1536x4096 .f32 0x00000000#32)) shapeCasts_S6x1536x4096_S6x12x128x32x128))

/-- The norm of each row. -/
def nrR (M : FVec Ideal S6x12x128x32x128 .f32) : FVec Ideal S6x12x128 .f32 :=
  let n : FVec Ideal S6x12x128 .f32 := sqrt (multiReduction .add [3, 4] S6x12x128 (mulf M M) 0x00000000#32 reduces_S6x12x128x32x128_S6x12x128 (.inl rfl) rfl)
  select (cmpf .oeq n (broadcast S6x12x128 (Scalar.ofBits .f32 0x00000000#32))) (broadcast S6x12x128 (Scalar.ofBits .f32 0x3F800000#32)) n

/-- The rows rescaled. -/
def scR (M : FVec Ideal S6x12x128x32x128 .f32) (N : FVec Ideal S6x12x128 .f32) : FVec Ideal S6x12x128x32x128 .f32 :=
  mulf M (broadcastTo S6x12x128x32x128 (shapeCast S6x12x128x1x1 (divf (shapeCast S6x12x128 v4 shapeCasts_S6x1536_S6x12x128) N) shapeCasts_S6x12x128_S6x12x128x1x1) broadcasts_S6x12x128x1x1_S6x12x128x32x128)

theorem pay3_eq : k0_pay3 v0 v1 v2 v3 v4 = scR v4 (mgR v0 v1 v2 v3) (nrR (mgR v0 v1 v2 v3)) := rfl

/-- The reference's arrays as functions of their coordinates. -/
abbrev cW : Fin 6 → Fin 1536 → Fin 4096 → EReal := fun b o i => v0 (ix3 b o i)
abbrev cS : Fin 6 → Fin 12 → Fin 32 → EReal := fun b P q => v1 (ix3 b P q)
abbrev cA : Fin 6 → Fin 96 → Fin 4096 → EReal := fun b k i => v2 (ix3 b k i)
abbrev cB : Fin 6 → Fin 1536 → Fin 96 → EReal := fun b o k => v3 (ix3 b o k)
abbrev cG : Fin 6 → Fin 1536 → EReal := fun b o => v4 (ix2 b o)

theorem blkOf_rowOf (P : Fin 12) (r : Fin 128) : blkOf (rowOf P r) = P := Fin.ext (by show (128 * P.val + r.val) / 128 = P.val; omega)

theorem mgR_at (b : Fin 6) (P : Fin 12) (r : Fin 128) (i : Col) :
    mgR v0 v1 v2 v3 (ix5 b P r i.1 i.2) = merged (cW v0) (cS v1) (cA v2) (cB v3) b (rowOf P r) i := by
  obtain ⟨q, j⟩ := i
  have h3 : (Named.named (F := Ideal) (φ := .f32) κ "third" 0x3EAAAAAB#32) = ((1 / 3 : ℝ) : EReal) := IdealRules.named_const.ideal_named_scalar _ _ _ _ rfl
  unfold merged
  rw [blkOf_rowOf]
  pointwise [mgR]
  rw [h3]
  have e1 : ∀ h, (⟨P.val * 128 + r.val, h⟩ : Fin 1536) = rowOf P r := fun h => Fin.ext (by show P.val * 128 + r.val = 128 * P.val + r.val; omega)
  have e2 : ∀ h, (⟨q.val * 128 + j.val, h⟩ : Fin 4096) = colOf (q, j) := fun h => Fin.ext (by show q.val * 128 + j.val = 128 * q.val + j.val; omega)
  simp only [e1, e2]

theorem nrR_at (M : FVec Ideal S6x12x128x32x128 .f32) (b : Fin 6) (P : Fin 12) (r : Fin 128) : nrR M (ix3 b P r) = nrm fun i : Col => M (ix5 b P r i.1 i.2) := by
  pointwise [nrR]
  rw [sum_row]
  rfl

theorem scR_at (M : FVec Ideal S6x12x128x32x128 .f32) (N : FVec Ideal S6x12x128 .f32) (b : Fin 6) (P : Fin 12) (r : Fin 128) (q : Fin 32) (j : Fin 128) :
    scR v4 M N (ix5 b P r q j) = M (ix5 b P r q j) * Ideal.div (v4 (ix2 b (rowOf P r))) (N (ix3 b P r)) := by
  pointwise [scR]
  have e1 : ∀ h, (⟨P.val * 128 + r.val, h⟩ : Fin 1536) = rowOf P r := fun h => Fin.ext (by show P.val * 128 + r.val = 128 * P.val + r.val; omega)
  simp only [e1]

theorem pay3_at (b : Fin 6) (P : Fin 12) (r : Fin 128) (i : Col) :
    k0_pay3 v0 v1 v2 v3 v4 (ix5 b P r i.1 i.2) = scaled (merged (cW v0) (cS v1) (cA v2) (cB v3) b (rowOf P r)) (v4 (ix2 b (rowOf P r))) i := by
  rw [pay3_eq, scR_at, nrR_at, mgR_at]
  simp only [mgR_at]
  rfl

theorem negInf : Ideal.ofBits .f32 0xFF800000#32 = ⊥ := by simp [Ideal.ofBits, Ideal.ieee]
theorem posInf : Ideal.ofBits .f32 0x7F800000#32 = ⊤ := by simp [Ideal.ofBits, Ideal.ieee]

theorem pay4_at (b : Fin 6) (P : Fin 12) (q : Fin 32) :
    k0_pay4 v0 v1 v2 v3 v4 (ix3 b P q) = blockMax (cW v0) (cS v1) (cA v2) (cB v3) (cG v4) b P q := by
  unfold k0_pay4
  have h := pay3_at v0 v1 v2 v3 v4 b P
  generalize k0_pay3 v0 v1 v2 v3 v4 = X at h
  pointwise []
  rw [max_blk, negInf]
  change (Finset.univ.sup fun k : Fin 128 × Fin 128 => ab (X (ix5 b P k.1 q k.2))) = _
  exact Finset.sup_congr rfl fun (k : Fin 128 × Fin 128) _ => congrArg ab (h k.1 (q, k.2))

/-! ## The scales -/

theorem pay5_at (b : Fin 6) (P : Fin 12) (q : Fin 32) (k : Fin 253) : k0_pay5 (F := Ideal) (ix4 b P q k) = (((2 : ℝ) ^ ((k.val : ℤ) - 126) : ℝ) : EReal) := by
  pointwise [k0_pay5]
  have h := (word_scale k).2.2
  have e : (FloatOps.sitofp (F := Ideal) .f32 (IntOp.subi (BitVec.ofNat 32 k.val) 126#32)) = (((k.val : ℤ) - 126 : ℤ) : ℝ) := by
    rw [← h]; rfl
  rw [e]
  refine (Ideal.exp2_coe _).trans ?_
  exact congrArg _ (Real.rpow_intCast 2 _)

/-- The largest entries over the largest code, repeated along the table of powers. -/
def tR (a : FVec Ideal S6x12x32 .f32) : FVec Ideal S6x12x32x253 .f32 :=
  broadcastTo S6x12x32x253 (shapeCast S6x12x32x1 (mulf a (broadcast S6x12x32 (Scalar.ofBits .f32 0x3B124925#32))) shapeCasts_S6x12x32_S6x12x32x1) broadcasts_S6x12x32x1_S6x12x32x253

theorem pay6_eq : k0_pay6 v0 v1 v2 v3 v4 = tR (k0_pay4 v0 v1 v2 v3 v4) := rfl

theorem tR_at (a : FVec Ideal S6x12x32 .f32) (b : Fin 6) (P : Fin 12) (q : Fin 32) (k : Fin 253) : tR a (ix4 b P q k) = a (ix3 b P q) * cst := by
  pointwise [tR]
  rfl

theorem pay1_at (a : FVec Ideal S6x12x32 .f32) (b : Fin 6) (P : Fin 12) (q : Fin 32) : k0_pay1 a k0_pay5 (tR a) (ix3 b P q) = scaleR (a (ix3 b P q)) := by
  have h5 := pay5_at b P q
  have h6 := tR_at a b P q
  generalize k0_pay5 (F := Ideal) = X at *
  generalize tR a = Y at *
  pointwise [k0_pay1]
  simp only [h5, h6, posInf]
  rfl

/-- The scales that the reference stores. -/
theorem scales_at (b : Fin 6) (P : Fin 12) (q : Fin 32) :
    k0_pay1 (k0_pay4 v0 v1 v2 v3 v4) k0_pay5 (k0_pay6 v0 v1 v2 v3 v4) (ix3 b P q) = scaleSpec (cW v0) (cS v1) (cA v2) (cB v3) (cG v4) b P q := by
  rw [pay6_eq, pay1_at, pay4_at]
  rfl

/-! ## The codes -/

theorem pay2_at (X : FVec Ideal S6x12x128x32x128 .f32) (a : FVec Ideal S6x12x32 .f32) (b : Fin 6) (o : Fin 1536) (i : Fin 4096) :
    k0_pay2 X a k0_pay5 (tR a) (ix3 b o i)
      = clip (X (ix5 b ⟨o.val / 128, by omega⟩ ⟨o.val % 128, by omega⟩ ⟨i.val / 128, by omega⟩ ⟨i.val % 128, by omega⟩)
          * Ideal.div 1 (scaleR (a (ix3 b ⟨o.val / 128, by omega⟩ ⟨i.val / 128, by omega⟩)))) := by
  have h1 := pay1_at a b ⟨o.val / 128, by omega⟩ ⟨i.val / 128, by omega⟩
  have e : k0_pay2 X a k0_pay5 (tR a) = k0_pay2 X a k0_pay5 (tR a) := rfl
  generalize k0_pay5 (F := Ideal) = Y at *
  generalize tR a = Z at *
  pointwise [k0_pay2]
  rw [h1]
  rfl

theorem rowOf_split (o : Fin 1536) : rowOf ⟨o.val / 128, by omega⟩ ⟨o.val % 128, by omega⟩ = o := Fin.ext (Nat.div_add_mod _ _)

/-- The codes that the reference stores. -/
theorem codes_at (b : Fin 6) (o : Fin 1536) (i : Col) :
    k0_pay2 (k0_pay3 v0 v1 v2 v3 v4) (k0_pay4 v0 v1 v2 v3 v4) k0_pay5 (k0_pay6 v0 v1 v2 v3 v4) (ix3 b o (colOf i))
      = codeSpec (cW v0) (cS v1) (cA v2) (cB v3) (cG v4) b o i := by
  obtain ⟨q, j⟩ := i
  have e1 : ∀ h, (⟨(colOf (q, j)).val / 128, h⟩ : Fin 32) = q := fun h => Fin.ext (by show (128 * q.val + j.val) / 128 = q.val; omega)
  have e2 : ∀ h, (⟨(colOf (q, j)).val % 128, h⟩ : Fin 128) = j := fun h => Fin.ext (by show (128 * q.val + j.val) % 128 = j.val; omega)
  have h3 := pay3_at v0 v1 v2 v3 v4 b ⟨o.val / 128, by omega⟩ ⟨o.val % 128, by omega⟩ (q, j)
  rw [rowOf_split] at h3
  rw [pay6_eq, pay2_at, e1, e2, h3, pay4_at]
  rfl

end Cert.ReferenceIdeal.Gen

end
-- ==== Proof.RFinal.lean ====
/- The reference's result arrays after the run: the codes and the scales of the problem's mathematics. -/
module

public import proofs.«01_k».proof.Proof.RVal

@[expose] public section

set_option maxRecDepth 16384

noncomputable section

namespace Cert.ReferenceIdeal.Gen

open Idealize.ShloMosaic Idealize.ShloMosaic.TcCoe Idealize.ShloMosaic.Tactic Cert.Dora
open Idealize.ShloMosaic.Pipeline (Dat)

variable (m : (ℓ : Loc nD τ sig) → Buf (Elt Ideal) ℓ)

/-- The one grid point's blocks are the whole arrays. -/
theorem idx_all : ∀ t : Fin cfg0.N, win0_0.index t = ![0, 0, 0] ∧ win0_1.index t = ![0, 0, 0] ∧ win0_2.index t = ![0, 0, 0]
    ∧ win0_3.index t = ![0, 0, 0] ∧ win0_4.index t = ![0, 0] ∧ win0_5.index t = ![0, 0, 0] ∧ win0_6.index t = ![0, 0, 0] :=
  (by decide +kernel : ∀ t : Fin grid0.N, _)

theorem blk_0 (c : Dev nD) (t : Fin cfg0.N) : iblk m c 0 t = m ((c : Thread nD τ).loc main_arg0) := by
  funext y; blk_ext [iblk, V, idx_all t]
theorem blk_1 (c : Dev nD) (t : Fin cfg0.N) : iblk m c 1 t = m ((c : Thread nD τ).loc main_arg1) := by
  funext y; blk_ext [iblk, V, idx_all t]
theorem blk_2 (c : Dev nD) (t : Fin cfg0.N) : iblk m c 2 t = m ((c : Thread nD τ).loc main_arg2) := by
  funext y; blk_ext [iblk, V, idx_all t]
theorem blk_3 (c : Dev nD) (t : Fin cfg0.N) : iblk m c 3 t = m ((c : Thread nD τ).loc main_arg3) := by
  funext y; blk_ext [iblk, V, idx_all t]
theorem blk_4 (c : Dev nD) (t : Fin cfg0.N) : iblk m c 4 t = m ((c : Thread nD τ).loc main_arg4) := by
  funext y; blk_ext [iblk, V, idx_all t]

/-- A load of a whole block is the block. -/
theorem ld_0 (x : Vec Ideal S6x1536x4096 .fp8e4m3) : View.ld (Val := Elt Ideal) (e' := .fp8e4m3) x r0_0 = x := View.ld_unit_lit _ x (by decide)
theorem ld_1 (x : Vec Ideal S6x12x32 .f32) : View.ld (Val := Elt Ideal) (e' := .f32) x r0_1 = x := View.ld_unit_lit _ x (by decide)
theorem ld_2 (x : Vec Ideal S6x96x4096 .bf16) : View.ld (Val := Elt Ideal) (e' := .bf16) x r0_2 = x := View.ld_unit_lit _ x (by decide)
theorem ld_3 (x : Vec Ideal S6x1536x96 .bf16) : View.ld (Val := Elt Ideal) (e' := .bf16) x r0_3 = x := View.ld_unit_lit _ x (by decide)
theorem ld_4 (x : Vec Ideal S6x1536 .f32) : View.ld (Val := Elt Ideal) (e' := .f32) x r0_4 = x := View.ld_unit_lit _ x (by decide)

/-- The codes and the scales at any index. -/
theorem codes_idx (v0 : Vec Ideal S6x1536x4096 .fp8e4m3) (v1 : Vec Ideal S6x12x32 .f32) (v2 : Vec Ideal S6x96x4096 .bf16) (v3 : Vec Ideal S6x1536x96 .bf16) (v4 : Vec Ideal S6x1536 .f32) (y : S6x1536x4096.Idx) :
    k0_pay2 (k0_pay3 v0 v1 v2 v3 v4) (k0_pay4 v0 v1 v2 v3 v4) k0_pay5 (k0_pay6 v0 v1 v2 v3 v4) y = codeSpec (cW v0) (cS v1) (cA v2) (cB v3) (cG v4) (y 0) (y 1) (colIx (y 2)) := by
  have h : ∀ b o z, k0_pay2 (k0_pay3 v0 v1 v2 v3 v4) (k0_pay4 v0 v1 v2 v3 v4) k0_pay5 (k0_pay6 v0 v1 v2 v3 v4) (ix3 b o z) = codeSpec (cW v0) (cS v1) (cA v2) (cB v3) (cG v4) b o (colIx z) := fun b o z => by
    have e := codes_at v0 v1 v2 v3 v4 b o (colIx z)
    rw [colOf_colIx] at e
    exact e
  generalize k0_pay2 (k0_pay3 v0 v1 v2 v3 v4) (k0_pay4 v0 v1 v2 v3 v4) k0_pay5 (k0_pay6 v0 v1 v2 v3 v4) = f at h ⊢
  obtain ⟨b, o, z, rfl⟩ : ∃ b o z, y = ix3 b o z := ⟨y 0, y 1, y 2, eq_ix3 y⟩
  exact h b o z

theorem scales_idx (v0 : Vec Ideal S6x1536x4096 .fp8e4m3) (v1 : Vec Ideal S6x12x32 .f32) (v2 : Vec Ideal S6x96x4096 .bf16) (v3 : Vec Ideal S6x1536x96 .bf16) (v4 : Vec Ideal S6x1536 .f32) (y : S6x12x32.Idx) :
    k0_pay1 (k0_pay4 v0 v1 v2 v3 v4) k0_pay5 (k0_pay6 v0 v1 v2 v3 v4) y = scaleSpec (cW v0) (cS v1) (cA v2) (cB v3) (cG v4) (y 0) (y 1) (y 2) := by
  have h := scales_at v0 v1 v2 v3 v4
  generalize k0_pay1 (k0_pay4 v0 v1 v2 v3 v4) k0_pay5 (k0_pay6 v0 v1 v2 v3 v4) = f at h ⊢
  obtain ⟨b, P, q, rfl⟩ : ∃ b P q, y = ix3 b P q := ⟨y 0, y 1, y 2, eq_ix3 y⟩
  exact h b P q

/-- The codes. -/
theorem codes_final (c : Dev nD) : (dats m 0 c).arrAt 5 cfg0.N = fun y : S6x1536x4096.Idx =>
    codeSpec (cW (m ((c : Thread nD τ).loc main_arg0))) (cS (m ((c : Thread nD τ).loc main_arg1))) (cA (m ((c : Thread nD τ).loc main_arg2)))
      (cB (m ((c : Thread nD τ).loc main_arg3))) (cG (m ((c : Thread nD τ).loc main_arg4))) (y 0) (y 1) (colIx (y 2)) := by
  refine (dats m 0 c).arrAt_eq_of_after_last 5 t0_0 (by decide +kernel) _ fun j => ?_
  blk_simp
  rw [after0_5]
  frame_out
  unfold k0_pay7 k0_pay8 k0_pay9
  rw [ld_0, ld_1, ld_2, ld_3, ld_4, blk_0, blk_1, blk_2, blk_3, blk_4]
  exact codes_idx _ _ _ _ _ j

/-- The scales. -/
theorem scales_final (c : Dev nD) : (dats m 0 c).arrAt 6 cfg0.N = fun y : S6x12x32.Idx =>
    scaleSpec (cW (m ((c : Thread nD τ).loc main_arg0))) (cS (m ((c : Thread nD τ).loc main_arg1))) (cA (m ((c : Thread nD τ).loc main_arg2)))
      (cB (m ((c : Thread nD τ).loc main_arg3))) (cG (m ((c : Thread nD τ).loc main_arg4))) (y 0) (y 1) (y 2) := by
  refine (dats m 0 c).arrAt_eq_of_after_last 6 t0_0 (by decide +kernel) _ fun j => ?_
  blk_simp
  rw [after0_6]
  frame_out
  unfold k0_pay7 k0_pay8 k0_pay9
  rw [ld_0, ld_1, ld_2, ld_3, ld_4, blk_0, blk_1, blk_2, blk_3, blk_4]
  exact scales_idx _ _ _ _ _ j

end Cert.ReferenceIdeal.Gen

end
-- ==== Proof.Pair.lean ====
/- Where every magnitude is finite, the kernel and the reference end with the same codes and the same scales. -/
module

public import proofs.«01_k».proof.Defs
public import proofs.«01_k».proof.Proof.KFinal
public import proofs.«01_k».proof.Proof.RFinal

@[expose] public section

set_option maxRecDepth 16384

noncomputable section

namespace Cert.Dora

open Idealize.ShloMosaic Idealize.ShloMosaic.TcCoe Idealize.ShloMosaic.Tactic Idealize.SL.Sem

/-- The shape relation of the precondition's one broadcast. -/
theorem pre_facts : Cert.Pre_finite_magnitude.Facts := ⟨by decide⟩

/-- The precondition says that every magnitude's absolute value is at most the largest finite single. -/
theorem finMag_of_pre [Cert.Pre_finite_magnitude.Facts] (m : (ℓ : Loc Cert.KernelIdeal.nD Cert.KernelIdeal.τ Cert.KernelIdeal.sig) → Buf (Elt Ideal) ℓ)
    (h : Cert.Pre_KernelIdeal_finite_magnitude m) (c : Dev Cert.KernelIdeal.nD) : Cert.KernelIdeal.Gen.FinMag m c := fun b o => by
  have e := congrFun (h c) (ix2 b o)
  by_contra hlt
  have f : Cert.Pre_finite_magnitude.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (ix2 b o)
      = BitVec.ofBool (decide (ab (Cert.KernelIdeal.Gen.kG m c b o) ≤ fmax)) := rfl
  rw [f, decide_eq_false hlt] at e
  exact absurd e (by decide)

/-- The kernel's run, its two results named. -/
theorem run_kernel [Cert.Pre_finite_magnitude.Facts] (m : (ℓ : Loc Cert.KernelIdeal.nD Cert.KernelIdeal.τ Cert.KernelIdeal.sig) → Buf (Elt Ideal) ℓ) (g : Dev Cert.KernelIdeal.nD → PrngReg)
    (h : Cert.Pre_KernelIdeal_finite_magnitude m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1_0)
        = (fun y : Cert.KernelIdeal.S6x1536x4096.Idx => codeSpec (Cert.KernelIdeal.Gen.kW m c) (Cert.KernelIdeal.Gen.kS m c) (Cert.KernelIdeal.Gen.kA m c) (Cert.KernelIdeal.Gen.kB m c) (Cert.KernelIdeal.Gen.kG m c) (y 0) (y 1) (colIx (y 2)))
      ∧ r.2.mem ((c.tc : Thread Cert.KernelIdeal.nD Cert.KernelIdeal.τ).loc Cert.KernelIdeal.main_v1_1)
        = (fun y : Cert.KernelIdeal.S6x12x32.Idx => scaleSpec (Cert.KernelIdeal.Gen.kW m c) (Cert.KernelIdeal.Gen.kS m c) (Cert.KernelIdeal.Gen.kA m c) (Cert.KernelIdeal.Gen.kB m c) (Cert.KernelIdeal.Gen.kG m c) (y 0) (y 1) (y 2))) :=
  (θ_run _ _ _).mono (fun _ hr c => ⟨Cert.KernelIdeal.Gen.codes_final hr (finMag_of_pre m h c), Cert.KernelIdeal.Gen.scales_final hr (finMag_of_pre m h c)⟩)
    (Cert.KernelIdeal.Gen.run_main m g)

/-- The pair. -/
theorem algebraic [Cert.Pre_finite_magnitude.Facts] [Cert.KernelIdeal.Facts] [Cert.ReferenceIdeal.Facts] :
    Cert.algebraic_KernelIdeal_ReferenceIdeal_pre_finite_magnitude := by
  intro m g m' g' hpre hm
  refine ⟨_, _, (θ_run _ _ _).mono (fun r hr c => ⟨(hr.1 c).1, (hr.1 c).2, hr.2.1 c⟩) (θ_run_and (run_kernel m g hpre) (Cert.KernelIdeal.Gen.frame m g)),
    (θ_run _ _ _).mono (fun r hr c => ?_) (θ_run_and (Cert.ReferenceIdeal.Gen.run_main m' g') (Cert.ReferenceIdeal.Gen.frame m' g'))⟩
  refine ⟨((hr.1 c).1 5).trans ((Cert.ReferenceIdeal.Gen.codes_final m' c).trans ?_), ((hr.1 c).1 6).trans ((Cert.ReferenceIdeal.Gen.scales_final m' c).trans ?_), hr.2.1 c⟩
  · rw [(hm c).1, (hm c).2.1, (hm c).2.2.1, (hm c).2.2.2.1, (hm c).2.2.2.2]
  · rw [(hm c).1, (hm c).2.1, (hm c).2.2.1, (hm c).2.2.2.1, (hm c).2.2.2.2]

end Cert.Dora

end
-- ==== Proof.lean ====
/- The claims of the certificate, each from its module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Run
public import proofs.«01_k».proof.Proof.KRun
public import proofs.«01_k».proof.Proof.Pair
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The certificate's claims. -/
theorem claim : Cert.Claim := ⟨Cert.Kernel.Gen.facts, Cert.KernelIdeal.Gen.facts, Cert.ReferenceIdeal.Gen.facts, Cert.Dora.pre_facts,
  fun m g _ => Cert.Kernel.Gen.frame m g,
  fun m g _ => Cert.KernelIdeal.Gen.frame m g, fun m g _ => Cert.KernelIdeal.Gen.frame m g,
  fun m g _ => Cert.ReferenceIdeal.Gen.frame m g, fun m g _ => Cert.ReferenceIdeal.Gen.frame m g,
  trivial,
  haveI := Cert.KernelIdeal.Gen.facts; haveI := Cert.ReferenceIdeal.Gen.facts; haveI := Cert.Dora.pre_facts; Cert.Dora.algebraic⟩

end Cert.Proof

end
